-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_scores_KernelIdeal [hPre_real_scores_KernelIdeal : Cert.Pre_real_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_real_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_scores_ReferenceIdeal [hPre_real_scores_ReferenceIdeal : Cert.Pre_real_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_real_scores_KernelIdeal [hKernelIdeal : Cert.KernelIdeal.Facts] [hPre_real_scores_KernelIdeal : Cert.Pre_real_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_real_scores_ReferenceIdeal [hReferenceIdeal : Cert.ReferenceIdeal.Facts] [hPre_real_scores_ReferenceIdeal : Cert.Pre_real_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_real_scores_KernelIdeal [hKernelIdeal : Cert.KernelIdeal.Facts] [hReferenceIdeal : Cert.ReferenceIdeal.Facts] [hPre_real_scores_KernelIdeal : Cert.Pre_real_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 512, 8, 64]⟩ ⟨4, ![2, 512, 256, 64]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 256, 64]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![16384, 768]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v54) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_real_scores_KernelIdeal : Cert.Pre_real_scores_KernelIdeal.Facts) (hPre_real_scores_ReferenceIdeal : Cert.Pre_real_scores_ReferenceIdeal.Facts),
    quiescent_Kernel (hKernel := hKernel)
    ∧ quiescent_KernelIdeal (hKernelIdeal := hKernelIdeal)
    ∧ quiescent_KernelIdeal_pre_real_scores_KernelIdeal (hKernelIdeal := hKernelIdeal) (hPre_real_scores_KernelIdeal := hPre_real_scores_KernelIdeal)
    ∧ quiescent_ReferenceIdeal (hReferenceIdeal := hReferenceIdeal)
    ∧ quiescent_ReferenceIdeal_pre_real_scores_ReferenceIdeal (hReferenceIdeal := hReferenceIdeal) (hPre_real_scores_ReferenceIdeal := hPre_real_scores_ReferenceIdeal)
    ∧ preserves_Kernel_KernelIdeal
    ∧ algebraic_KernelIdeal_ReferenceIdeal_pre_real_scores_KernelIdeal (hKernelIdeal := hKernelIdeal) (hReferenceIdeal := hReferenceIdeal) (hPre_real_scores_KernelIdeal := hPre_real_scores_KernelIdeal)
-- ==== Pre_real_scores_KernelIdeal.lean ====
abbrev S1024x768 : Shape := ⟨2, ![1024, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S1024x768 : S_.BroadcastsInDim S1024x768 (![] : Fin 0 → Fin S1024x768.rank)
  reducesTo_S1024x768_S_d0_1 : S1024x768.ReducesTo [0, 1] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S1024x768 .bf16) (main_arg1 : FVec F S768x512 .bf16) (main_arg2 : FVec F S2x512x8x64 .bf16) (main_arg3 : FVec F S2x512x8x64 .bf16) (main_arg4 : FVec F S512x768 .bf16) : IVec S_ 1 :=
  let main_v0 : FVec F S1024x768 .bf16 := Host.absf main_arg0
  let main_cst : FVec F S_ .bf16 := constant S_ .bf16 0x7F80#16
  let main_v1 : FVec F S1024x768 .bf16 := broadcastInDim S1024x768 ![] bcast_S_S1024x768 main_cst
  let main_v2 : IVec S1024x768 1 := cmpf .olt main_v0 main_v1
  let main_c : IVec S_ 1 := constantI S_ 1 1#1
  let main_v3 : IVec S_ 1 := (fun x v => Host.reduce IntOp.andi x v reducesTo_S1024x768_S_d0_1 h_S_) main_v2 main_c
  let main_v4 : FVec F S768x512 .bf16 := Host.absf main_arg1
  let main_cst_0 : FVec F S_ .bf16 := constant S_ .bf16 0x7F80#16
  let main_v5 : FVec F S768x512 .bf16 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x8x64 .bf16 := Host.absf main_arg2
  let main_cst_2 : FVec F S_ .bf16 := constant S_ .bf16 0x7F80#16
  let main_v10 : FVec F S2x512x8x64 .bf16 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Pre_real_scores_ReferenceIdeal.lean ====
abbrev S1024x768 : Shape := ⟨2, ![1024, 768]⟩
abbrev S768x16384 : Shape := ⟨2, ![768, 16384]⟩
abbrev S2x512x256x64 : Shape := ⟨4, ![2, 512, 256, 64]⟩
abbrev S16384x768 : Shape := ⟨2, ![16384, 768]⟩
abbrev S_ : Shape := ⟨0, ![]⟩

class Facts : Prop where
  bcast_S_S1024x768 : S_.BroadcastsInDim S1024x768 (![] : Fin 0 → Fin S1024x768.rank)
  reducesTo_S1024x768_S_d0_1 : S1024x768.ReducesTo [0, 1] S_
  h_S_ : 0 < S_.numel
  bcast_S_S768x16384 : S_.BroadcastsInDim S768x16384 (![] : Fin 0 → Fin S768x16384.rank)
  reducesTo_S768x16384_S_d0_1 : S768x16384.ReducesTo [0, 1] S_
  bcast_S_S2x512x256x64 : S_.BroadcastsInDim S2x512x256x64 (![] : Fin 0 → Fin S2x512x256x64.rank)
  reducesTo_S2x512x256x64_S_d0_1_2_3 : S2x512x256x64.ReducesTo [0, 1, 2, 3] S_

variable [Facts]

def fn {F : FTy → Type} [FloatOps F] (main_arg0 : FVec F S1024x768 .bf16) (main_arg1 : FVec F S768x16384 .bf16) (main_arg2 : FVec F S2x512x256x64 .bf16) (main_arg3 : FVec F S2x512x256x64 .bf16) (main_arg4 : FVec F S16384x768 .bf16) : IVec S_ 1 :=
  let main_v0 : FVec F S1024x768 .bf16 := Host.absf main_arg0
  let main_cst : FVec F S_ .bf16 := constant S_ .bf16 0x7F80#16
  let main_v1 : FVec F S1024x768 .bf16 := broadcastInDim S1024x768 ![] bcast_S_S1024x768 main_cst
  let main_v2 : IVec S1024x768 1 := cmpf .olt main_v0 main_v1
  let main_c : IVec S_ 1 := constantI S_ 1 1#1
  let main_v3 : IVec S_ 1 := (fun x v => Host.reduce IntOp.andi x v reducesTo_S1024x768_S_d0_1 h_S_) main_v2 main_c
  let main_v4 : FVec F S768x16384 .bf16 := Host.absf main_arg1
  let main_cst_0 : FVec F S_ .bf16 := constant S_ .bf16 0x7F80#16
  let main_v5 : FVec F S768x16384 .bf16 := broadcastInDim S768x16384 ![] bcast_S_S768x16384 main_cst_0
  let main_v6 : IVec S768x16384 1 := cmpf .olt main_v4 main_v5
  let main_c_1 : IVec S_ 1 := constantI S_ 1 1#1
  let main_v7 : IVec S_ 1 := (fun x v => Host.reduce IntOp.andi x v reducesTo_S768x16384_S_d0_1 h_S_) main_v6 main_c_1
  let main_v8 : IVec S_ 1 := andi main_v3 main_v7
  let main_v9 : FVec F S2x512x256x64 .bf16 := Host.absf main_arg2
  let main_cst_2 : FVec F S_ .bf16 := constant S_ .bf16 0x7F80#16
  let main_v10 : FVec F S2x512x256x64 .bf16 := broadcastInDim S2x512x256x64 ![] bcast_S_S2x512x256x64 main_cst_2
  let main_v11 : IVec S2x512x256x64 1 := cmpf .olt main_v9 main_v10
  let main_c_3 : IVec S_ 1 := constantI S_ 1 1#1
  let main_v12 : IVec S_ 1 := (fun x v => Host.reduce IntOp.andi x v reducesTo_S2x512x256x64_S_d0_1_2_3 h_S_) main_v11 main_c_3
  let main_v13 : IVec S_ 1 := andi main_v8 main_v12
  main_v13
-- ==== Kernel.lean ====
abbrev S1024x768 : Shape := ⟨2, ![1024, 768]⟩
abbrev S768x512 : Shape := ⟨2, ![768, 512]⟩
abbrev S2x512x8x64 : Shape := ⟨4, ![2, 512, 8, 64]⟩
abbrev S512x768 : Shape := ⟨2, ![512, 768]⟩
abbrev S32x32x768 : Shape := ⟨3, ![32, 32, 768]⟩
abbrev S32 : Shape := ⟨1, ![32]⟩
abbrev S_ : Shape := ⟨0, ![]⟩
abbrev S1024x512 : Shape := ⟨2, ![1024, 512]⟩
abbrev S512x512 : Shape := ⟨2, ![512, 512]⟩
abbrev S512x64 : Shape := ⟨2, ![512, 64]⟩
abbrev S1x512x1x64 : Shape := ⟨4, ![1, 512, 1, 64]⟩
abbrev S512 : Shape := ⟨1, ![512]⟩
abbrev S512x1 : Shape := ⟨2, ![512, 1]⟩
abbrev S64x768 : Shape := ⟨2, ![64, 768]⟩
abbrev S1 : Shape := ⟨1, ![1]⟩
abbrev S1x32x768 : Shape := ⟨3, ![1, 32, 768]⟩
abbrev S32x768 : Shape := ⟨2, ![32, 768]⟩

abbrev nBuf : Space → Nat
  | .hbm => 6
  | .vmem => 8
  | .smem => 0
  | _ => 0

abbrev bufTy : (tb : Table) → Fin (tcTables nBuf tb) → BufTy
  | .hbm, ⟨0, _⟩ => ⟨S1024x768, .bf16⟩
  | .hbm, ⟨1, _⟩ => ⟨S768x512, .bf16⟩
  | .hbm, ⟨2, _⟩ => ⟨S2x512x8x64, .bf16⟩
  | .hbm, ⟨3, _⟩ => ⟨S2x512x8x64, .bf16⟩
  | .hbm, ⟨4, _⟩ => ⟨S512x768, .bf16⟩
  | .hbm, ⟨5, _⟩ => ⟨S1024x768, .bf16⟩
  | .local _ .vmem, ⟨0, _⟩ => ⟨S1024x768, .bf16⟩
  | .local _ .vmem, ⟨1, _⟩ => ⟨S768x512, .bf16⟩
  | .local _ .vmem, ⟨2, _⟩ => ⟨S2x512x8x64, .bf16⟩
  | .local _ .vmem, ⟨3, _⟩ => ⟨S2x512x8x64, .bf16⟩
  | .local _ .vmem, ⟨4, _⟩ => ⟨S512x768, .bf16⟩
  | .local _ .vmem, ⟨5, _⟩ => ⟨S1024x768, .bf16⟩
  | .local _ .vmem, ⟨6, _⟩ => ⟨S1024x768, .bf16⟩
  | .local _ .vmem, ⟨7, _⟩ => ⟨S32x32x768, .bf16⟩
  | _, _ => ⟨S1024x768, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c1_i32_280 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v407 : BitVec 32 := Scalar.addi v2 c1_i32_280
  let c32_i32_281 : BitVec 32 := 32#32
  let c0_i32_282 : BitVec 32 := 0#32
  let v408 : BitVec 1 := Scalar.cmpi .eq c32_i32_281 c0_i32_282
  let c1_i32_283 : BitVec 32 := 1#32
  let v409 : BitVec 32 := Scalar.select v408 c1_i32_283 c32_i32_281
  let v410 : BitVec 32 := Scalar.remsi v407 v409
  let c0_i32_285 : BitVec 32 := 0#32
  let v412 : BitVec 1 := Scalar.cmpi .slt v410 c0_i32_285
  let c0_i32_286 : BitVec 32 := 0#32
  let v413 : BitVec 1 := Scalar.cmpi .slt v409 c0_i32_286
  let v414 : BitVec 1 := Scalar.xori v412 v413
  let c0_i32_284 : BitVec 32 := 0#32
  let v411 : BitVec 1 := Scalar.cmpi .ne v410 c0_i32_284
  let v415 : BitVec 1 := Scalar.andi v414 v411
  let v416 : BitVec 32 := Scalar.addi v410 v409
  let v417 : BitVec 32 := Scalar.select v415 v416 v410
  let c32_i32_287 : BitVec 32 := 32#32
  let v418 : BitVec 32 := Scalar.muli v417 c32_i32_287
  let c0_i32_787 : BitVec 32 := 0#32
  ![v418.toNat, 0]
def k0_dev32 (d0 : Dev nD) : Nat :=
  let c0_i32_784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_280 : BitVec 32 := 1#32
  let v407 : BitVec 32 := Scalar.addi v2 c1_i32_280
  let c32_i32_281 : BitVec 32 := 32#32
  let c0_i32_282 : BitVec 32 := 0#32
  let v408 : BitVec 1 := Scalar.cmpi .eq c32_i32_281 c0_i32_282
  let c1_i32_283 : BitVec 32 := 1#32
  let v409 : BitVec 32 := Scalar.select v408 c1_i32_283 c32_i32_281
  let v410 : BitVec 32 := Scalar.remsi v407 v409
  let c0_i32_285 : BitVec 32 := 0#32
  let v412 : BitVec 1 := Scalar.cmpi .slt v410 c0_i32_285
  let c0_i32_286 : BitVec 32 := 0#32
  let v413 : BitVec 1 := Scalar.cmpi .slt v409 c0_i32_286
  let v414 : BitVec 1 := Scalar.xori v412 v413
  let c0_i32_284 : BitVec 32 := 0#32
  let v411 : BitVec 1 := Scalar.cmpi .ne v410 c0_i32_284
  let v415 : BitVec 1 := Scalar.andi v414 v411
  let v416 : BitVec 32 := Scalar.addi v410 v409
  let v417 : BitVec 32 := Scalar.select v415 v416 v410
  let c1_i32_783 : BitVec 32 := 1#32
  let v1175 : BitVec 32 := Scalar.muli v417 c1_i32_783
  let v1176 : BitVec 32 := Scalar.addi c0_i32_784 v1175
  v1176.toNat
def k0_dev33 (d0 : Dev nD) : Nat :=
  let c0_i32_792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_288 : BitVec 32 := 2#32
  let v419 : BitVec 32 := Scalar.addi v2 c2_i32_288
  let c32_i32_289 : BitVec 32 := 32#32
  let c0_i32_290 : BitVec 32 := 0#32
  let v420 : BitVec 1 := Scalar.cmpi .eq c32_i32_289 c0_i32_290
  let c1_i32_291 : BitVec 32 := 1#32
  let v421 : BitVec 32 := Scalar.select v420 c1_i32_291 c32_i32_289
  let v422 : BitVec 32 := Scalar.remsi v419 v421
  let c0_i32_293 : BitVec 32 := 0#32
  let v424 : BitVec 1 := Scalar.cmpi .slt v422 c0_i32_293
  let c0_i32_294 : BitVec 32 := 0#32
  let v425 : BitVec 1 := Scalar.cmpi .slt v421 c0_i32_294
  let v426 : BitVec 1 := Scalar.xori v424 v425
  let c0_i32_292 : BitVec 32 := 0#32
  let v423 : BitVec 1 := Scalar.cmpi .ne v422 c0_i32_292
  let v427 : BitVec 1 := Scalar.andi v426 v423
  let v428 : BitVec 32 := Scalar.addi v422 v421
  let v429 : BitVec 32 := Scalar.select v427 v428 v422
  let c1_i32_791 : BitVec 32 := 1#32
  let v1184 : BitVec 32 := Scalar.muli v429 c1_i32_791
  let v1185 : BitVec 32 := Scalar.addi c0_i32_792 v1184
  v1185.toNat
def k0_dev34 (d0 : Dev nD) : Nat :=
  let c0_i32_800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_296 : BitVec 32 := 3#32
  let v431 : BitVec 32 := Scalar.addi v2 c3_i32_296
  let c32_i32_297 : BitVec 32 := 32#32
  let c0_i32_298 : BitVec 32 := 0#32
  let v432 : BitVec 1 := Scalar.cmpi .eq c32_i32_297 c0_i32_298
  let c1_i32_299 : BitVec 32 := 1#32
  let v433 : BitVec 32 := Scalar.select v432 c1_i32_299 c32_i32_297
  let v434 : BitVec 32 := Scalar.remsi v431 v433
  let c0_i32_301 : BitVec 32 := 0#32
  let v436 : BitVec 1 := Scalar.cmpi .slt v434 c0_i32_301
  let c0_i32_302 : BitVec 32 := 0#32
  let v437 : BitVec 1 := Scalar.cmpi .slt v433 c0_i32_302
  let v438 : BitVec 1 := Scalar.xori v436 v437
  let c0_i32_300 : BitVec 32 := 0#32
  let v435 : BitVec 1 := Scalar.cmpi .ne v434 c0_i32_300
  let v439 : BitVec 1 := Scalar.andi v438 v435
  let v440 : BitVec 32 := Scalar.addi v434 v433
  let v441 : BitVec 32 := Scalar.select v439 v440 v434
  let c1_i32_799 : BitVec 32 := 1#32
  let v1193 : BitVec 32 := Scalar.muli v441 c1_i32_799
  let v1194 : BitVec 32 := Scalar.addi c0_i32_800 v1193
  v1194.toNat
def k0_dev35 (d0 : Dev nD) : Nat :=
  let c0_i32_808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_304 : BitVec 32 := 4#32
  let v443 : BitVec 32 := Scalar.addi v2 c4_i32_304
  let c32_i32_305 : BitVec 32 := 32#32
  let c0_i32_306 : BitVec 32 := 0#32
  let v444 : BitVec 1 := Scalar.cmpi .eq c32_i32_305 c0_i32_306
  let c1_i32_307 : BitVec 32 := 1#32
  let v445 : BitVec 32 := Scalar.select v444 c1_i32_307 c32_i32_305
  let v446 : BitVec 32 := Scalar.remsi v443 v445
  let c0_i32_309 : BitVec 32 := 0#32
  let v448 : BitVec 1 := Scalar.cmpi .slt v446 c0_i32_309
  let c0_i32_310 : BitVec 32 := 0#32
  let v449 : BitVec 1 := Scalar.cmpi .slt v445 c0_i32_310
  let v450 : BitVec 1 := Scalar.xori v448 v449
  let c0_i32_308 : BitVec 32 := 0#32
  let v447 : BitVec 1 := Scalar.cmpi .ne v446 c0_i32_308
  let v451 : BitVec 1 := Scalar.andi v450 v447
  let v452 : BitVec 32 := Scalar.addi v446 v445
  let v453 : BitVec 32 := Scalar.select v451 v452 v446
  let c1_i32_807 : BitVec 32 := 1#32
  let v1202 : BitVec 32 := Scalar.muli v453 c1_i32_807
  let v1203 : BitVec 32 := Scalar.addi c0_i32_808 v1202
  v1203.toNat
def k0_dev36 (d0 : Dev nD) : Nat :=
  let c0_i32_816 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_312 : BitVec 32 := 5#32
  let v455 : BitVec 32 := Scalar.addi v2 c5_i32_312
  let c32_i32_313 : BitVec 32 := 32#32
  let c0_i32_314 : BitVec 32 := 0#32
  let v456 : BitVec 1 := Scalar.cmpi .eq c32_i32_313 c0_i32_314
  let c1_i32_315 : BitVec 32 := 1#32
  let v457 : BitVec 32 := Scalar.select v456 c1_i32_315 c32_i32_313
  let v458 : BitVec 32 := Scalar.remsi v455 v457
  let c0_i32_317 : BitVec 32 := 0#32
  let v460 : BitVec 1 := Scalar.cmpi .slt v458 c0_i32_317
  let c0_i32_318 : BitVec 32 := 0#32
  let v461 : BitVec 1 := Scalar.cmpi .slt v457 c0_i32_318
  let v462 : BitVec 1 := Scalar.xori v460 v461
  let c0_i32_316 : BitVec 32 := 0#32
  let v459 : BitVec 1 := Scalar.cmpi .ne v458 c0_i32_316
  let v463 : BitVec 1 := Scalar.andi v462 v459
  let v464 : BitVec 32 := Scalar.addi v458 v457
  let v465 : BitVec 32 := Scalar.select v463 v464 v458
  let c1_i32_815 : BitVec 32 := 1#32
  let v1211 : BitVec 32 := Scalar.muli v465 c1_i32_815
  let v1212 : BitVec 32 := Scalar.addi c0_i32_816 v1211
  v1212.toNat
def k0_dev37 (d0 : Dev nD) : Nat :=
  let c0_i32_824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_320 : BitVec 32 := 6#32
  let v467 : BitVec 32 := Scalar.addi v2 c6_i32_320
  let c32_i32_321 : BitVec 32 := 32#32
  let c0_i32_322 : BitVec 32 := 0#32
  let v468 : BitVec 1 := Scalar.cmpi .eq c32_i32_321 c0_i32_322
  let c1_i32_323 : BitVec 32 := 1#32
  let v469 : BitVec 32 := Scalar.select v468 c1_i32_323 c32_i32_321
  let v470 : BitVec 32 := Scalar.remsi v467 v469
  let c0_i32_325 : BitVec 32 := 0#32
  let v472 : BitVec 1 := Scalar.cmpi .slt v470 c0_i32_325
  let c0_i32_326 : BitVec 32 := 0#32
  let v473 : BitVec 1 := Scalar.cmpi .slt v469 c0_i32_326
  let v474 : BitVec 1 := Scalar.xori v472 v473
  let c0_i32_324 : BitVec 32 := 0#32
  let v471 : BitVec 1 := Scalar.cmpi .ne v470 c0_i32_324
  let v475 : BitVec 1 := Scalar.andi v474 v471
  let v476 : BitVec 32 := Scalar.addi v470 v469
  let v477 : BitVec 32 := Scalar.select v475 v476 v470
  let c1_i32_823 : BitVec 32 := 1#32
  let v1220 : BitVec 32 := Scalar.muli v477 c1_i32_823
  let v1221 : BitVec 32 := Scalar.addi c0_i32_824 v1220
  v1221.toNat
def k0_dev38 (d0 : Dev nD) : Nat :=
  let c0_i32_832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_328 : BitVec 32 := 7#32
  let v479 : BitVec 32 := Scalar.addi v2 c7_i32_328
  let c32_i32_329 : BitVec 32 := 32#32
  let c0_i32_330 : BitVec 32 := 0#32
  let v480 : BitVec 1 := Scalar.cmpi .eq c32_i32_329 c0_i32_330
  let c1_i32_331 : BitVec 32 := 1#32
  let v481 : BitVec 32 := Scalar.select v480 c1_i32_331 c32_i32_329
  let v482 : BitVec 32 := Scalar.remsi v479 v481
  let c0_i32_333 : BitVec 32 := 0#32
  let v484 : BitVec 1 := Scalar.cmpi .slt v482 c0_i32_333
  let c0_i32_334 : BitVec 32 := 0#32
  let v485 : BitVec 1 := Scalar.cmpi .slt v481 c0_i32_334
  let v486 : BitVec 1 := Scalar.xori v484 v485
  let c0_i32_332 : BitVec 32 := 0#32
  let v483 : BitVec 1 := Scalar.cmpi .ne v482 c0_i32_332
  let v487 : BitVec 1 := Scalar.andi v486 v483
  let v488 : BitVec 32 := Scalar.addi v482 v481
  let v489 : BitVec 32 := Scalar.select v487 v488 v482
  let c1_i32_831 : BitVec 32 := 1#32
  let v1229 : BitVec 32 := Scalar.muli v489 c1_i32_831
  let v1230 : BitVec 32 := Scalar.addi c0_i32_832 v1229
  v1230.toNat
def k0_dev39 (d0 : Dev nD) : Nat :=
  let c0_i32_840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_336 : BitVec 32 := 8#32
  let v491 : BitVec 32 := Scalar.addi v2 c8_i32_336
  let c32_i32_337 : BitVec 32 := 32#32
  let c0_i32_338 : BitVec 32 := 0#32
  let v492 : BitVec 1 := Scalar.cmpi .eq c32_i32_337 c0_i32_338
  let c1_i32_339 : BitVec 32 := 1#32
  let v493 : BitVec 32 := Scalar.select v492 c1_i32_339 c32_i32_337
  let v494 : BitVec 32 := Scalar.remsi v491 v493
  let c0_i32_341 : BitVec 32 := 0#32
  let v496 : BitVec 1 := Scalar.cmpi .slt v494 c0_i32_341
  let c0_i32_342 : BitVec 32 := 0#32
  let v497 : BitVec 1 := Scalar.cmpi .slt v493 c0_i32_342
  let v498 : BitVec 1 := Scalar.xori v496 v497
  let c0_i32_340 : BitVec 32 := 0#32
  let v495 : BitVec 1 := Scalar.cmpi .ne v494 c0_i32_340
  let v499 : BitVec 1 := Scalar.andi v498 v495
  let v500 : BitVec 32 := Scalar.addi v494 v493
  let v501 : BitVec 32 := Scalar.select v499 v500 v494
  let c1_i32_839 : BitVec 32 := 1#32
  let v1238 : BitVec 32 := Scalar.muli v501 c1_i32_839
  let v1239 : BitVec 32 := Scalar.addi c0_i32_840 v1238
  v1239.toNat
def k0_dev40 (d0 : Dev nD) : Nat :=
  let c0_i32_848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_344 : BitVec 32 := 9#32
  let v503 : BitVec 32 := Scalar.addi v2 c9_i32_344
  let c32_i32_345 : BitVec 32 := 32#32
  let c0_i32_346 : BitVec 32 := 0#32
  let v504 : BitVec 1 := Scalar.cmpi .eq c32_i32_345 c0_i32_346
  let c1_i32_347 : BitVec 32 := 1#32
  let v505 : BitVec 32 := Scalar.select v504 c1_i32_347 c32_i32_345
  let v506 : BitVec 32 := Scalar.remsi v503 v505
  let c0_i32_349 : BitVec 32 := 0#32
  let v508 : BitVec 1 := Scalar.cmpi .slt v506 c0_i32_349
  let c0_i32_350 : BitVec 32 := 0#32
  let v509 : BitVec 1 := Scalar.cmpi .slt v505 c0_i32_350
  let v510 : BitVec 1 := Scalar.xori v508 v509
  let c0_i32_348 : BitVec 32 := 0#32
  let v507 : BitVec 1 := Scalar.cmpi .ne v506 c0_i32_348
  let v511 : BitVec 1 := Scalar.andi v510 v507
  let v512 : BitVec 32 := Scalar.addi v506 v505
  let v513 : BitVec 32 := Scalar.select v511 v512 v506
  let c1_i32_847 : BitVec 32 := 1#32
  let v1247 : BitVec 32 := Scalar.muli v513 c1_i32_847
  let v1248 : BitVec 32 := Scalar.addi c0_i32_848 v1247
  v1248.toNat
def k0_dev41 (d0 : Dev nD) : Nat :=
  let c0_i32_856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_352 : BitVec 32 := 10#32
  let v515 : BitVec 32 := Scalar.addi v2 c10_i32_352
  let c32_i32_353 : BitVec 32 := 32#32
  let c0_i32_354 : BitVec 32 := 0#32
  let v516 : BitVec 1 := Scalar.cmpi .eq c32_i32_353 c0_i32_354
  let c1_i32_355 : BitVec 32 := 1#32
  let v517 : BitVec 32 := Scalar.select v516 c1_i32_355 c32_i32_353
  let v518 : BitVec 32 := Scalar.remsi v515 v517
  let c0_i32_357 : BitVec 32 := 0#32
  let v520 : BitVec 1 := Scalar.cmpi .slt v518 c0_i32_357
  let c0_i32_358 : BitVec 32 := 0#32
  let v521 : BitVec 1 := Scalar.cmpi .slt v517 c0_i32_358
  let v522 : BitVec 1 := Scalar.xori v520 v521
  let c0_i32_356 : BitVec 32 := 0#32
  let v519 : BitVec 1 := Scalar.cmpi .ne v518 c0_i32_356
  let v523 : BitVec 1 := Scalar.andi v522 v519
  let v524 : BitVec 32 := Scalar.addi v518 v517
  let v525 : BitVec 32 := Scalar.select v523 v524 v518
  let c1_i32_855 : BitVec 32 := 1#32
  let v1256 : BitVec 32 := Scalar.muli v525 c1_i32_855
  let v1257 : BitVec 32 := Scalar.addi c0_i32_856 v1256
  v1257.toNat
def k0_dev42 (d0 : Dev nD) : Nat :=
  let c0_i32_864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_360 : BitVec 32 := 11#32
  let v527 : BitVec 32 := Scalar.addi v2 c11_i32_360
  let c32_i32_361 : BitVec 32 := 32#32
  let c0_i32_362 : BitVec 32 := 0#32
  let v528 : BitVec 1 := Scalar.cmpi .eq c32_i32_361 c0_i32_362
  let c1_i32_363 : BitVec 32 := 1#32
  let v529 : BitVec 32 := Scalar.select v528 c1_i32_363 c32_i32_361
  let v530 : BitVec 32 := Scalar.remsi v527 v529
  let c0_i32_365 : BitVec 32 := 0#32
  let v532 : BitVec 1 := Scalar.cmpi .slt v530 c0_i32_365
  let c0_i32_366 : BitVec 32 := 0#32
  let v533 : BitVec 1 := Scalar.cmpi .slt v529 c0_i32_366
  let v534 : BitVec 1 := Scalar.xori v532 v533
  let c0_i32_364 : BitVec 32 := 0#32
  let v531 : BitVec 1 := Scalar.cmpi .ne v530 c0_i32_364
  let v535 : BitVec 1 := Scalar.andi v534 v531
  let v536 : BitVec 32 := Scalar.addi v530 v529
  let v537 : BitVec 32 := Scalar.select v535 v536 v530
  let c1_i32_863 : BitVec 32 := 1#32
  let v1265 : BitVec 32 := Scalar.muli v537 c1_i32_863
  let v1266 : BitVec 32 := Scalar.addi c0_i32_864 v1265
  v1266.toNat
def k0_dev43 (d0 : Dev nD) : Nat :=
  let c0_i32_872 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_368 : BitVec 32 := 12#32
  let v539 : BitVec 32 := Scalar.addi v2 c12_i32_368
  let c32_i32_369 : BitVec 32 := 32#32
  let c0_i32_370 : BitVec 32 := 0#32
  let v540 : BitVec 1 := Scalar.cmpi .eq c32_i32_369 c0_i32_370
  let c1_i32_371 : BitVec 32 := 1#32
  let v541 : BitVec 32 := Scalar.select v540 c1_i32_371 c32_i32_369
  let v542 : BitVec 32 := Scalar.remsi v539 v541
  let c0_i32_373 : BitVec 32 := 0#32
  let v544 : BitVec 1 := Scalar.cmpi .slt v542 c0_i32_373
  let c0_i32_374 : BitVec 32 := 0#32
  let v545 : BitVec 1 := Scalar.cmpi .slt v541 c0_i32_374
  let v546 : BitVec 1 := Scalar.xori v544 v545
  let c0_i32_372 : BitVec 32 := 0#32
  let v543 : BitVec 1 := Scalar.cmpi .ne v542 c0_i32_372
  let v547 : BitVec 1 := Scalar.andi v546 v543
  let v548 : BitVec 32 := Scalar.addi v542 v541
  let v549 : BitVec 32 := Scalar.select v547 v548 v542
  let c1_i32_871 : BitVec 32 := 1#32
  let v1274 : BitVec 32 := Scalar.muli v549 c1_i32_871
  let v1275 : BitVec 32 := Scalar.addi c0_i32_872 v1274
  v1275.toNat
def k0_dev44 (d0 : Dev nD) : Nat :=
  let c0_i32_880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_376 : BitVec 32 := 13#32
  let v551 : BitVec 32 := Scalar.addi v2 c13_i32_376
  let c32_i32_377 : BitVec 32 := 32#32
  let c0_i32_378 : BitVec 32 := 0#32
  let v552 : BitVec 1 := Scalar.cmpi .eq c32_i32_377 c0_i32_378
  let c1_i32_379 : BitVec 32 := 1#32
  let v553 : BitVec 32 := Scalar.select v552 c1_i32_379 c32_i32_377
  let v554 : BitVec 32 := Scalar.remsi v551 v553
  let c0_i32_381 : BitVec 32 := 0#32
  let v556 : BitVec 1 := Scalar.cmpi .slt v554 c0_i32_381
  let c0_i32_382 : BitVec 32 := 0#32
  let v557 : BitVec 1 := Scalar.cmpi .slt v553 c0_i32_382
  let v558 : BitVec 1 := Scalar.xori v556 v557
  let c0_i32_380 : BitVec 32 := 0#32
  let v555 : BitVec 1 := Scalar.cmpi .ne v554 c0_i32_380
  let v559 : BitVec 1 := Scalar.andi v558 v555
  let v560 : BitVec 32 := Scalar.addi v554 v553
  let v561 : BitVec 32 := Scalar.select v559 v560 v554
  let c1_i32_879 : BitVec 32 := 1#32
  let v1283 : BitVec 32 := Scalar.muli v561 c1_i32_879
  let v1284 : BitVec 32 := Scalar.addi c0_i32_880 v1283
  v1284.toNat
def k0_dev45 (d0 : Dev nD) : Nat :=
  let c0_i32_888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_384 : BitVec 32 := 14#32
  let v563 : BitVec 32 := Scalar.addi v2 c14_i32_384
  let c32_i32_385 : BitVec 32 := 32#32
  let c0_i32_386 : BitVec 32 := 0#32
  let v564 : BitVec 1 := Scalar.cmpi .eq c32_i32_385 c0_i32_386
  let c1_i32_387 : BitVec 32 := 1#32
  let v565 : BitVec 32 := Scalar.select v564 c1_i32_387 c32_i32_385
  let v566 : BitVec 32 := Scalar.remsi v563 v565
  let c0_i32_389 : BitVec 32 := 0#32
  let v568 : BitVec 1 := Scalar.cmpi .slt v566 c0_i32_389
  let c0_i32_390 : BitVec 32 := 0#32
  let v569 : BitVec 1 := Scalar.cmpi .slt v565 c0_i32_390
  let v570 : BitVec 1 := Scalar.xori v568 v569
  let c0_i32_388 : BitVec 32 := 0#32
  let v567 : BitVec 1 := Scalar.cmpi .ne v566 c0_i32_388
  let v571 : BitVec 1 := Scalar.andi v570 v567
  let v572 : BitVec 32 := Scalar.addi v566 v565
  let v573 : BitVec 32 := Scalar.select v571 v572 v566
  let c1_i32_887 : BitVec 32 := 1#32
  let v1292 : BitVec 32 := Scalar.muli v573 c1_i32_887
  let v1293 : BitVec 32 := Scalar.addi c0_i32_888 v1292
  v1293.toNat
def k0_dev46 (d0 : Dev nD) : Nat :=
  let c0_i32_896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_392 : BitVec 32 := 15#32
  let v575 : BitVec 32 := Scalar.addi v2 c15_i32_392
  let c32_i32_393 : BitVec 32 := 32#32
  let c0_i32_394 : BitVec 32 := 0#32
  let v576 : BitVec 1 := Scalar.cmpi .eq c32_i32_393 c0_i32_394
  let c1_i32_395 : BitVec 32 := 1#32
  let v577 : BitVec 32 := Scalar.select v576 c1_i32_395 c32_i32_393
  let v578 : BitVec 32 := Scalar.remsi v575 v577
  let c0_i32_397 : BitVec 32 := 0#32
  let v580 : BitVec 1 := Scalar.cmpi .slt v578 c0_i32_397
  let c0_i32_398 : BitVec 32 := 0#32
  let v581 : BitVec 1 := Scalar.cmpi .slt v577 c0_i32_398
  let v582 : BitVec 1 := Scalar.xori v580 v581
  let c0_i32_396 : BitVec 32 := 0#32
  let v579 : BitVec 1 := Scalar.cmpi .ne v578 c0_i32_396
  let v583 : BitVec 1 := Scalar.andi v582 v579
  let v584 : BitVec 32 := Scalar.addi v578 v577
  let v585 : BitVec 32 := Scalar.select v583 v584 v578
  let c1_i32_895 : BitVec 32 := 1#32
  let v1301 : BitVec 32 := Scalar.muli v585 c1_i32_895
  let v1302 : BitVec 32 := Scalar.addi c0_i32_896 v1301
  v1302.toNat
def k0_dev47 (d0 : Dev nD) : Nat :=
  let c0_i32_904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_400 : BitVec 32 := 16#32
  let v587 : BitVec 32 := Scalar.addi v2 c16_i32_400
  let c32_i32_401 : BitVec 32 := 32#32
  let c0_i32_402 : BitVec 32 := 0#32
  let v588 : BitVec 1 := Scalar.cmpi .eq c32_i32_401 c0_i32_402
  let c1_i32_403 : BitVec 32 := 1#32
  let v589 : BitVec 32 := Scalar.select v588 c1_i32_403 c32_i32_401
  let v590 : BitVec 32 := Scalar.remsi v587 v589
  let c0_i32_405 : BitVec 32 := 0#32
  let v592 : BitVec 1 := Scalar.cmpi .slt v590 c0_i32_405
  let c0_i32_406 : BitVec 32 := 0#32
  let v593 : BitVec 1 := Scalar.cmpi .slt v589 c0_i32_406
  let v594 : BitVec 1 := Scalar.xori v592 v593
  let c0_i32_404 : BitVec 32 := 0#32
  let v591 : BitVec 1 := Scalar.cmpi .ne v590 c0_i32_404
  let v595 : BitVec 1 := Scalar.andi v594 v591
  let v596 : BitVec 32 := Scalar.addi v590 v589
  let v597 : BitVec 32 := Scalar.select v595 v596 v590
  let c1_i32_903 : BitVec 32 := 1#32
  let v1310 : BitVec 32 := Scalar.muli v597 c1_i32_903
  let v1311 : BitVec 32 := Scalar.addi c0_i32_904 v1310
  v1311.toNat
def k0_dev48 (d0 : Dev nD) : Nat :=
  let c0_i32_912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_408 : BitVec 32 := 17#32
  let v599 : BitVec 32 := Scalar.addi v2 c17_i32_408
  let c32_i32_409 : BitVec 32 := 32#32
  let c0_i32_410 : BitVec 32 := 0#32
  let v600 : BitVec 1 := Scalar.cmpi .eq c32_i32_409 c0_i32_410
  let c1_i32_411 : BitVec 32 := 1#32
  let v601 : BitVec 32 := Scalar.select v600 c1_i32_411 c32_i32_409
  let v602 : BitVec 32 := Scalar.remsi v599 v601
  let c0_i32_413 : BitVec 32 := 0#32
  let v604 : BitVec 1 := Scalar.cmpi .slt v602 c0_i32_413
  let c0_i32_414 : BitVec 32 := 0#32
  let v605 : BitVec 1 := Scalar.cmpi .slt v601 c0_i32_414
  let v606 : BitVec 1 := Scalar.xori v604 v605
  let c0_i32_412 : BitVec 32 := 0#32
  let v603 : BitVec 1 := Scalar.cmpi .ne v602 c0_i32_412
  let v607 : BitVec 1 := Scalar.andi v606 v603
  let v608 : BitVec 32 := Scalar.addi v602 v601
  let v609 : BitVec 32 := Scalar.select v607 v608 v602
  let c1_i32_911 : BitVec 32 := 1#32
  let v1319 : BitVec 32 := Scalar.muli v609 c1_i32_911
  let v1320 : BitVec 32 := Scalar.addi c0_i32_912 v1319
  v1320.toNat
def k0_dev49 (d0 : Dev nD) : Nat :=
  let c0_i32_920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_416 : BitVec 32 := 18#32
  let v611 : BitVec 32 := Scalar.addi v2 c18_i32_416
  let c32_i32_417 : BitVec 32 := 32#32
  let c0_i32_418 : BitVec 32 := 0#32
  let v612 : BitVec 1 := Scalar.cmpi .eq c32_i32_417 c0_i32_418
  let c1_i32_419 : BitVec 32 := 1#32
  let v613 : BitVec 32 := Scalar.select v612 c1_i32_419 c32_i32_417
  let v614 : BitVec 32 := Scalar.remsi v611 v613
  let c0_i32_421 : BitVec 32 := 0#32
  let v616 : BitVec 1 := Scalar.cmpi .slt v614 c0_i32_421
  let c0_i32_422 : BitVec 32 := 0#32
  let v617 : BitVec 1 := Scalar.cmpi .slt v613 c0_i32_422
  let v618 : BitVec 1 := Scalar.xori v616 v617
  let c0_i32_420 : BitVec 32 := 0#32
  let v615 : BitVec 1 := Scalar.cmpi .ne v614 c0_i32_420
  let v619 : BitVec 1 := Scalar.andi v618 v615
  let v620 : BitVec 32 := Scalar.addi v614 v613
  let v621 : BitVec 32 := Scalar.select v619 v620 v614
  let c1_i32_919 : BitVec 32 := 1#32
  let v1328 : BitVec 32 := Scalar.muli v621 c1_i32_919
  let v1329 : BitVec 32 := Scalar.addi c0_i32_920 v1328
  v1329.toNat
def k0_dev50 (d0 : Dev nD) : Nat :=
  let c0_i32_928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_424 : BitVec 32 := 19#32
  let v623 : BitVec 32 := Scalar.addi v2 c19_i32_424
  let c32_i32_425 : BitVec 32 := 32#32
  let c0_i32_426 : BitVec 32 := 0#32
  let v624 : BitVec 1 := Scalar.cmpi .eq c32_i32_425 c0_i32_426
  let c1_i32_427 : BitVec 32 := 1#32
  let v625 : BitVec 32 := Scalar.select v624 c1_i32_427 c32_i32_425
  let v626 : BitVec 32 := Scalar.remsi v623 v625
  let c0_i32_429 : BitVec 32 := 0#32
  let v628 : BitVec 1 := Scalar.cmpi .slt v626 c0_i32_429
  let c0_i32_430 : BitVec 32 := 0#32
  let v629 : BitVec 1 := Scalar.cmpi .slt v625 c0_i32_430
  let v630 : BitVec 1 := Scalar.xori v628 v629
  let c0_i32_428 : BitVec 32 := 0#32
  let v627 : BitVec 1 := Scalar.cmpi .ne v626 c0_i32_428
  let v631 : BitVec 1 := Scalar.andi v630 v627
  let v632 : BitVec 32 := Scalar.addi v626 v625
  let v633 : BitVec 32 := Scalar.select v631 v632 v626
  let c1_i32_927 : BitVec 32 := 1#32
  let v1337 : BitVec 32 := Scalar.muli v633 c1_i32_927
  let v1338 : BitVec 32 := Scalar.addi c0_i32_928 v1337
  v1338.toNat
def k0_dev51 (d0 : Dev nD) : Nat :=
  let c0_i32_936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_432 : BitVec 32 := 20#32
  let v635 : BitVec 32 := Scalar.addi v2 c20_i32_432
  let c32_i32_433 : BitVec 32 := 32#32
  let c0_i32_434 : BitVec 32 := 0#32
  let v636 : BitVec 1 := Scalar.cmpi .eq c32_i32_433 c0_i32_434
  let c1_i32_435 : BitVec 32 := 1#32
  let v637 : BitVec 32 := Scalar.select v636 c1_i32_435 c32_i32_433
  let v638 : BitVec 32 := Scalar.remsi v635 v637
  let c0_i32_437 : BitVec 32 := 0#32
  let v640 : BitVec 1 := Scalar.cmpi .slt v638 c0_i32_437
  let c0_i32_438 : BitVec 32 := 0#32
  let v641 : BitVec 1 := Scalar.cmpi .slt v637 c0_i32_438
  let v642 : BitVec 1 := Scalar.xori v640 v641
  let c0_i32_436 : BitVec 32 := 0#32
  let v639 : BitVec 1 := Scalar.cmpi .ne v638 c0_i32_436
  let v643 : BitVec 1 := Scalar.andi v642 v639
  let v644 : BitVec 32 := Scalar.addi v638 v637
  let v645 : BitVec 32 := Scalar.select v643 v644 v638
  let c1_i32_935 : BitVec 32 := 1#32
  let v1346 : BitVec 32 := Scalar.muli v645 c1_i32_935
  let v1347 : BitVec 32 := Scalar.addi c0_i32_936 v1346
  v1347.toNat
def k0_dev52 (d0 : Dev nD) : Nat :=
  let c0_i32_944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_440 : BitVec 32 := 21#32
  let v647 : BitVec 32 := Scalar.addi v2 c21_i32_440
  let c32_i32_441 : BitVec 32 := 32#32
  let c0_i32_442 : BitVec 32 := 0#32
  let v648 : BitVec 1 := Scalar.cmpi .eq c32_i32_441 c0_i32_442
  let c1_i32_443 : BitVec 32 := 1#32
  let v649 : BitVec 32 := Scalar.select v648 c1_i32_443 c32_i32_441
  let v650 : BitVec 32 := Scalar.remsi v647 v649
  let c0_i32_445 : BitVec 32 := 0#32
  let v652 : BitVec 1 := Scalar.cmpi .slt v650 c0_i32_445
  let c0_i32_446 : BitVec 32 := 0#32
  let v653 : BitVec 1 := Scalar.cmpi .slt v649 c0_i32_446
  let v654 : BitVec 1 := Scalar.xori v652 v653
  let c0_i32_444 : BitVec 32 := 0#32
  let v651 : BitVec 1 := Scalar.cmpi .ne v650 c0_i32_444
  let v655 : BitVec 1 := Scalar.andi v654 v651
  let v656 : BitVec 32 := Scalar.addi v650 v649
  let v657 : BitVec 32 := Scalar.select v655 v656 v650
  let c1_i32_943 : BitVec 32 := 1#32
  let v1355 : BitVec 32 := Scalar.muli v657 c1_i32_943
  let v1356 : BitVec 32 := Scalar.addi c0_i32_944 v1355
  v1356.toNat
def k0_dev53 (d0 : Dev nD) : Nat :=
  let c0_i32_952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_448 : BitVec 32 := 22#32
  let v659 : BitVec 32 := Scalar.addi v2 c22_i32_448
  let c32_i32_449 : BitVec 32 := 32#32
  let c0_i32_450 : BitVec 32 := 0#32
  let v660 : BitVec 1 := Scalar.cmpi .eq c32_i32_449 c0_i32_450
  let c1_i32_451 : BitVec 32 := 1#32
  let v661 : BitVec 32 := Scalar.select v660 c1_i32_451 c32_i32_449
  let v662 : BitVec 32 := Scalar.remsi v659 v661
  let c0_i32_453 : BitVec 32 := 0#32
  let v664 : BitVec 1 := Scalar.cmpi .slt v662 c0_i32_453
  let c0_i32_454 : BitVec 32 := 0#32
  let v665 : BitVec 1 := Scalar.cmpi .slt v661 c0_i32_454
  let v666 : BitVec 1 := Scalar.xori v664 v665
  let c0_i32_452 : BitVec 32 := 0#32
  let v663 : BitVec 1 := Scalar.cmpi .ne v662 c0_i32_452
  let v667 : BitVec 1 := Scalar.andi v666 v663
  let v668 : BitVec 32 := Scalar.addi v662 v661
  let v669 : BitVec 32 := Scalar.select v667 v668 v662
  let c1_i32_951 : BitVec 32 := 1#32
  let v1364 : BitVec 32 := Scalar.muli v669 c1_i32_951
  let v1365 : BitVec 32 := Scalar.addi c0_i32_952 v1364
  v1365.toNat
def k0_dev54 (d0 : Dev nD) : Nat :=
  let c0_i32_960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_456 : BitVec 32 := 23#32
  let v671 : BitVec 32 := Scalar.addi v2 c23_i32_456
  let c32_i32_457 : BitVec 32 := 32#32
  let c0_i32_458 : BitVec 32 := 0#32
  let v672 : BitVec 1 := Scalar.cmpi .eq c32_i32_457 c0_i32_458
  let c1_i32_459 : BitVec 32 := 1#32
  let v673 : BitVec 32 := Scalar.select v672 c1_i32_459 c32_i32_457
  let v674 : BitVec 32 := Scalar.remsi v671 v673
  let c0_i32_461 : BitVec 32 := 0#32
  let v676 : BitVec 1 := Scalar.cmpi .slt v674 c0_i32_461
  let c0_i32_462 : BitVec 32 := 0#32
  let v677 : BitVec 1 := Scalar.cmpi .slt v673 c0_i32_462
  let v678 : BitVec 1 := Scalar.xori v676 v677
  let c0_i32_460 : BitVec 32 := 0#32
  let v675 : BitVec 1 := Scalar.cmpi .ne v674 c0_i32_460
  let v679 : BitVec 1 := Scalar.andi v678 v675
  let v680 : BitVec 32 := Scalar.addi v674 v673
  let v681 : BitVec 32 := Scalar.select v679 v680 v674
  let c1_i32_959 : BitVec 32 := 1#32
  let v1373 : BitVec 32 := Scalar.muli v681 c1_i32_959
  let v1374 : BitVec 32 := Scalar.addi c0_i32_960 v1373
  v1374.toNat
def k0_dev55 (d0 : Dev nD) : Nat :=
  let c0_i32_968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_464 : BitVec 32 := 24#32
  let v683 : BitVec 32 := Scalar.addi v2 c24_i32_464
  let c32_i32_465 : BitVec 32 := 32#32
  let c0_i32_466 : BitVec 32 := 0#32
  let v684 : BitVec 1 := Scalar.cmpi .eq c32_i32_465 c0_i32_466
  let c1_i32_467 : BitVec 32 := 1#32
  let v685 : BitVec 32 := Scalar.select v684 c1_i32_467 c32_i32_465
  let v686 : BitVec 32 := Scalar.remsi v683 v685
  let c0_i32_469 : BitVec 32 := 0#32
  let v688 : BitVec 1 := Scalar.cmpi .slt v686 c0_i32_469
  let c0_i32_470 : BitVec 32 := 0#32
  let v689 : BitVec 1 := Scalar.cmpi .slt v685 c0_i32_470
  let v690 : BitVec 1 := Scalar.xori v688 v689
  let c0_i32_468 : BitVec 32 := 0#32
  let v687 : BitVec 1 := Scalar.cmpi .ne v686 c0_i32_468
  let v691 : BitVec 1 := Scalar.andi v690 v687
  let v692 : BitVec 32 := Scalar.addi v686 v685
  let v693 : BitVec 32 := Scalar.select v691 v692 v686
  let c1_i32_967 : BitVec 32 := 1#32
  let v1382 : BitVec 32 := Scalar.muli v693 c1_i32_967
  let v1383 : BitVec 32 := Scalar.addi c0_i32_968 v1382
  v1383.toNat
def k0_dev56 (d0 : Dev nD) : Nat :=
  let c0_i32_976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_472 : BitVec 32 := 25#32
  let v695 : BitVec 32 := Scalar.addi v2 c25_i32_472
  let c32_i32_473 : BitVec 32 := 32#32
  let c0_i32_474 : BitVec 32 := 0#32
  let v696 : BitVec 1 := Scalar.cmpi .eq c32_i32_473 c0_i32_474
  let c1_i32_475 : BitVec 32 := 1#32
  let v697 : BitVec 32 := Scalar.select v696 c1_i32_475 c32_i32_473
  let v698 : BitVec 32 := Scalar.remsi v695 v697
  let c0_i32_477 : BitVec 32 := 0#32
  let v700 : BitVec 1 := Scalar.cmpi .slt v698 c0_i32_477
  let c0_i32_478 : BitVec 32 := 0#32
  let v701 : BitVec 1 := Scalar.cmpi .slt v697 c0_i32_478
  let v702 : BitVec 1 := Scalar.xori v700 v701
  let c0_i32_476 : BitVec 32 := 0#32
  let v699 : BitVec 1 := Scalar.cmpi .ne v698 c0_i32_476
  let v703 : BitVec 1 := Scalar.andi v702 v699
  let v704 : BitVec 32 := Scalar.addi v698 v697
  let v705 : BitVec 32 := Scalar.select v703 v704 v698
  let c1_i32_975 : BitVec 32 := 1#32
  let v1391 : BitVec 32 := Scalar.muli v705 c1_i32_975
  let v1392 : BitVec 32 := Scalar.addi c0_i32_976 v1391
  v1392.toNat
def k0_dev57 (d0 : Dev nD) : Nat :=
  let c0_i32_984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_480 : BitVec 32 := 26#32
  let v707 : BitVec 32 := Scalar.addi v2 c26_i32_480
  let c32_i32_481 : BitVec 32 := 32#32
  let c0_i32_482 : BitVec 32 := 0#32
  let v708 : BitVec 1 := Scalar.cmpi .eq c32_i32_481 c0_i32_482
  let c1_i32_483 : BitVec 32 := 1#32
  let v709 : BitVec 32 := Scalar.select v708 c1_i32_483 c32_i32_481
  let v710 : BitVec 32 := Scalar.remsi v707 v709
  let c0_i32_485 : BitVec 32 := 0#32
  let v712 : BitVec 1 := Scalar.cmpi .slt v710 c0_i32_485
  let c0_i32_486 : BitVec 32 := 0#32
  let v713 : BitVec 1 := Scalar.cmpi .slt v709 c0_i32_486
  let v714 : BitVec 1 := Scalar.xori v712 v713
  let c0_i32_484 : BitVec 32 := 0#32
  let v711 : BitVec 1 := Scalar.cmpi .ne v710 c0_i32_484
  let v715 : BitVec 1 := Scalar.andi v714 v711
  let v716 : BitVec 32 := Scalar.addi v710 v709
  let v717 : BitVec 32 := Scalar.select v715 v716 v710
  let c1_i32_983 : BitVec 32 := 1#32
  let v1400 : BitVec 32 := Scalar.muli v717 c1_i32_983
  let v1401 : BitVec 32 := Scalar.addi c0_i32_984 v1400
  v1401.toNat
def k0_dev58 (d0 : Dev nD) : Nat :=
  let c0_i32_992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_488 : BitVec 32 := 27#32
  let v719 : BitVec 32 := Scalar.addi v2 c27_i32_488
  let c32_i32_489 : BitVec 32 := 32#32
  let c0_i32_490 : BitVec 32 := 0#32
  let v720 : BitVec 1 := Scalar.cmpi .eq c32_i32_489 c0_i32_490
  let c1_i32_491 : BitVec 32 := 1#32
  let v721 : BitVec 32 := Scalar.select v720 c1_i32_491 c32_i32_489
  let v722 : BitVec 32 := Scalar.remsi v719 v721
  let c0_i32_493 : BitVec 32 := 0#32
  let v724 : BitVec 1 := Scalar.cmpi .slt v722 c0_i32_493
  let c0_i32_494 : BitVec 32 := 0#32
  let v725 : BitVec 1 := Scalar.cmpi .slt v721 c0_i32_494
  let v726 : BitVec 1 := Scalar.xori v724 v725
  let c0_i32_492 : BitVec 32 := 0#32
  let v723 : BitVec 1 := Scalar.cmpi .ne v722 c0_i32_492
  let v727 : BitVec 1 := Scalar.andi v726 v723
  let v728 : BitVec 32 := Scalar.addi v722 v721
  let v729 : BitVec 32 := Scalar.select v727 v728 v722
  let c1_i32_991 : BitVec 32 := 1#32
  let v1409 : BitVec 32 := Scalar.muli v729 c1_i32_991
  let v1410 : BitVec 32 := Scalar.addi c0_i32_992 v1409
  v1410.toNat
def k0_dev59 (d0 : Dev nD) : Nat :=
  let c0_i32_1000 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_496 : BitVec 32 := 28#32
  let v731 : BitVec 32 := Scalar.addi v2 c28_i32_496
  let c32_i32_497 : BitVec 32 := 32#32
  let c0_i32_498 : BitVec 32 := 0#32
  let v732 : BitVec 1 := Scalar.cmpi .eq c32_i32_497 c0_i32_498
  let c1_i32_499 : BitVec 32 := 1#32
  let v733 : BitVec 32 := Scalar.select v732 c1_i32_499 c32_i32_497
  let v734 : BitVec 32 := Scalar.remsi v731 v733
  let c0_i32_501 : BitVec 32 := 0#32
  let v736 : BitVec 1 := Scalar.cmpi .slt v734 c0_i32_501
  let c0_i32_502 : BitVec 32 := 0#32
  let v737 : BitVec 1 := Scalar.cmpi .slt v733 c0_i32_502
  let v738 : BitVec 1 := Scalar.xori v736 v737
  let c0_i32_500 : BitVec 32 := 0#32
  let v735 : BitVec 1 := Scalar.cmpi .ne v734 c0_i32_500
  let v739 : BitVec 1 := Scalar.andi v738 v735
  let v740 : BitVec 32 := Scalar.addi v734 v733
  let v741 : BitVec 32 := Scalar.select v739 v740 v734
  let c1_i32_999 : BitVec 32 := 1#32
  let v1418 : BitVec 32 := Scalar.muli v741 c1_i32_999
  let v1419 : BitVec 32 := Scalar.addi c0_i32_1000 v1418
  v1419.toNat
def k0_dev60 (d0 : Dev nD) : Nat :=
  let c0_i32_1008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_504 : BitVec 32 := 29#32
  let v743 : BitVec 32 := Scalar.addi v2 c29_i32_504
  let c32_i32_505 : BitVec 32 := 32#32
  let c0_i32_506 : BitVec 32 := 0#32
  let v744 : BitVec 1 := Scalar.cmpi .eq c32_i32_505 c0_i32_506
  let c1_i32_507 : BitVec 32 := 1#32
  let v745 : BitVec 32 := Scalar.select v744 c1_i32_507 c32_i32_505
  let v746 : BitVec 32 := Scalar.remsi v743 v745
  let c0_i32_509 : BitVec 32 := 0#32
  let v748 : BitVec 1 := Scalar.cmpi .slt v746 c0_i32_509
  let c0_i32_510 : BitVec 32 := 0#32
  let v749 : BitVec 1 := Scalar.cmpi .slt v745 c0_i32_510
  let v750 : BitVec 1 := Scalar.xori v748 v749
  let c0_i32_508 : BitVec 32 := 0#32
  let v747 : BitVec 1 := Scalar.cmpi .ne v746 c0_i32_508
  let v751 : BitVec 1 := Scalar.andi v750 v747
  let v752 : BitVec 32 := Scalar.addi v746 v745
  let v753 : BitVec 32 := Scalar.select v751 v752 v746
  let c1_i32_1007 : BitVec 32 := 1#32
  let v1427 : BitVec 32 := Scalar.muli v753 c1_i32_1007
  let v1428 : BitVec 32 := Scalar.addi c0_i32_1008 v1427
  v1428.toNat
def k0_dev61 (d0 : Dev nD) : Nat :=
  let c0_i32_1016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_512 : BitVec 32 := 30#32
  let v755 : BitVec 32 := Scalar.addi v2 c30_i32_512
  let c32_i32_513 : BitVec 32 := 32#32
  let c0_i32_514 : BitVec 32 := 0#32
  let v756 : BitVec 1 := Scalar.cmpi .eq c32_i32_513 c0_i32_514
  let c1_i32_515 : BitVec 32 := 1#32
  let v757 : BitVec 32 := Scalar.select v756 c1_i32_515 c32_i32_513
  let v758 : BitVec 32 := Scalar.remsi v755 v757
  let c0_i32_517 : BitVec 32 := 0#32
  let v760 : BitVec 1 := Scalar.cmpi .slt v758 c0_i32_517
  let c0_i32_518 : BitVec 32 := 0#32
  let v761 : BitVec 1 := Scalar.cmpi .slt v757 c0_i32_518
  let v762 : BitVec 1 := Scalar.xori v760 v761
  let c0_i32_516 : BitVec 32 := 0#32
  let v759 : BitVec 1 := Scalar.cmpi .ne v758 c0_i32_516
  let v763 : BitVec 1 := Scalar.andi v762 v759
  let v764 : BitVec 32 := Scalar.addi v758 v757
  let v765 : BitVec 32 := Scalar.select v763 v764 v758
  let c1_i32_1015 : BitVec 32 := 1#32
  let v1436 : BitVec 32 := Scalar.muli v765 c1_i32_1015
  let v1437 : BitVec 32 := Scalar.addi c0_i32_1016 v1436
  v1437.toNat
def k0_dev62 (d0 : Dev nD) : Nat :=
  let c0_i32_1024 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_520 : BitVec 32 := 31#32
  let v767 : BitVec 32 := Scalar.addi v2 c31_i32_520
  let c32_i32_521 : BitVec 32 := 32#32
  let c0_i32_522 : BitVec 32 := 0#32
  let v768 : BitVec 1 := Scalar.cmpi .eq c32_i32_521 c0_i32_522
  let c1_i32_523 : BitVec 32 := 1#32
  let v769 : BitVec 32 := Scalar.select v768 c1_i32_523 c32_i32_521
  let v770 : BitVec 32 := Scalar.remsi v767 v769
  let c0_i32_525 : BitVec 32 := 0#32
  let v772 : BitVec 1 := Scalar.cmpi .slt v770 c0_i32_525
  let c0_i32_526 : BitVec 32 := 0#32
  let v773 : BitVec 1 := Scalar.cmpi .slt v769 c0_i32_526
  let v774 : BitVec 1 := Scalar.xori v772 v773
  let c0_i32_524 : BitVec 32 := 0#32
  let v771 : BitVec 1 := Scalar.cmpi .ne v770 c0_i32_524
  let v775 : BitVec 1 := Scalar.andi v774 v771
  let v776 : BitVec 32 := Scalar.addi v770 v769
  let v777 : BitVec 32 := Scalar.select v775 v776 v770
  let c1_i32_1023 : BitVec 32 := 1#32
  let v1445 : BitVec 32 := Scalar.muli v777 c1_i32_1023
  let v1446 : BitVec 32 := Scalar.addi c0_i32_1024 v1445
  v1446.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1028 : BitVec 32 := 32#32
  let v1454 : BitVec 32 := Scalar.muli v2 c32_i32_1028
  let v1455 : Index := Scalar.indexCast v1454
  let c0_1029 : Index := 0#32
  ![v1455.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1357 : BitVec 32 := 32#32
  let v1815 : BitVec 32 := Scalar.muli v2 c32_i32_1357
  let c0_i32_1362 : BitVec 32 := 0#32
  ![v1815.toNat, 0]
def k0_dev63 (d0 : Dev nD) : Nat :=
  let c0_i32_1361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1349 : BitVec 32 := 1#32
  let v1803 : BitVec 32 := Scalar.addi v2 c1_i32_1349
  let c32_i32_1350 : BitVec 32 := 32#32
  let c0_i32_1351 : BitVec 32 := 0#32
  let v1804 : BitVec 1 := Scalar.cmpi .eq c32_i32_1350 c0_i32_1351
  let c1_i32_1352 : BitVec 32 := 1#32
  let v1805 : BitVec 32 := Scalar.select v1804 c1_i32_1352 c32_i32_1350
  let v1806 : BitVec 32 := Scalar.remsi v1803 v1805
  let c0_i32_1354 : BitVec 32 := 0#32
  let v1808 : BitVec 1 := Scalar.cmpi .slt v1806 c0_i32_1354
  let c0_i32_1355 : BitVec 32 := 0#32
  let v1809 : BitVec 1 := Scalar.cmpi .slt v1805 c0_i32_1355
  let v1810 : BitVec 1 := Scalar.xori v1808 v1809
  let c0_i32_1353 : BitVec 32 := 0#32
  let v1807 : BitVec 1 := Scalar.cmpi .ne v1806 c0_i32_1353
  let v1811 : BitVec 1 := Scalar.andi v1810 v1807
  let v1812 : BitVec 32 := Scalar.addi v1806 v1805
  let v1813 : BitVec 32 := Scalar.select v1811 v1812 v1806
  let c1_i32_1360 : BitVec 32 := 1#32
  let v1816 : BitVec 32 := Scalar.muli v1813 c1_i32_1360
  let v1817 : BitVec 32 := Scalar.addi c0_i32_1361 v1816
  v1817.toNat
def k0_dev64 (d0 : Dev nD) : Nat :=
  let c0_i32_1376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1364 : BitVec 32 := 2#32
  let v1824 : BitVec 32 := Scalar.addi v2 c2_i32_1364
  let c32_i32_1365 : BitVec 32 := 32#32
  let c0_i32_1366 : BitVec 32 := 0#32
  let v1825 : BitVec 1 := Scalar.cmpi .eq c32_i32_1365 c0_i32_1366
  let c1_i32_1367 : BitVec 32 := 1#32
  let v1826 : BitVec 32 := Scalar.select v1825 c1_i32_1367 c32_i32_1365
  let v1827 : BitVec 32 := Scalar.remsi v1824 v1826
  let c0_i32_1369 : BitVec 32 := 0#32
  let v1829 : BitVec 1 := Scalar.cmpi .slt v1827 c0_i32_1369
  let c0_i32_1370 : BitVec 32 := 0#32
  let v1830 : BitVec 1 := Scalar.cmpi .slt v1826 c0_i32_1370
  let v1831 : BitVec 1 := Scalar.xori v1829 v1830
  let c0_i32_1368 : BitVec 32 := 0#32
  let v1828 : BitVec 1 := Scalar.cmpi .ne v1827 c0_i32_1368
  let v1832 : BitVec 1 := Scalar.andi v1831 v1828
  let v1833 : BitVec 32 := Scalar.addi v1827 v1826
  let v1834 : BitVec 32 := Scalar.select v1832 v1833 v1827
  let c1_i32_1375 : BitVec 32 := 1#32
  let v1837 : BitVec 32 := Scalar.muli v1834 c1_i32_1375
  let v1838 : BitVec 32 := Scalar.addi c0_i32_1376 v1837
  v1838.toNat
def k0_dev65 (d0 : Dev nD) : Nat :=
  let c0_i32_1391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1379 : BitVec 32 := 3#32
  let v1845 : BitVec 32 := Scalar.addi v2 c3_i32_1379
  let c32_i32_1380 : BitVec 32 := 32#32
  let c0_i32_1381 : BitVec 32 := 0#32
  let v1846 : BitVec 1 := Scalar.cmpi .eq c32_i32_1380 c0_i32_1381
  let c1_i32_1382 : BitVec 32 := 1#32
  let v1847 : BitVec 32 := Scalar.select v1846 c1_i32_1382 c32_i32_1380
  let v1848 : BitVec 32 := Scalar.remsi v1845 v1847
  let c0_i32_1384 : BitVec 32 := 0#32
  let v1850 : BitVec 1 := Scalar.cmpi .slt v1848 c0_i32_1384
  let c0_i32_1385 : BitVec 32 := 0#32
  let v1851 : BitVec 1 := Scalar.cmpi .slt v1847 c0_i32_1385
  let v1852 : BitVec 1 := Scalar.xori v1850 v1851
  let c0_i32_1383 : BitVec 32 := 0#32
  let v1849 : BitVec 1 := Scalar.cmpi .ne v1848 c0_i32_1383
  let v1853 : BitVec 1 := Scalar.andi v1852 v1849
  let v1854 : BitVec 32 := Scalar.addi v1848 v1847
  let v1855 : BitVec 32 := Scalar.select v1853 v1854 v1848
  let c1_i32_1390 : BitVec 32 := 1#32
  let v1858 : BitVec 32 := Scalar.muli v1855 c1_i32_1390
  let v1859 : BitVec 32 := Scalar.addi c0_i32_1391 v1858
  v1859.toNat
def k0_dev66 (d0 : Dev nD) : Nat :=
  let c0_i32_1406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1394 : BitVec 32 := 4#32
  let v1866 : BitVec 32 := Scalar.addi v2 c4_i32_1394
  let c32_i32_1395 : BitVec 32 := 32#32
  let c0_i32_1396 : BitVec 32 := 0#32
  let v1867 : BitVec 1 := Scalar.cmpi .eq c32_i32_1395 c0_i32_1396
  let c1_i32_1397 : BitVec 32 := 1#32
  let v1868 : BitVec 32 := Scalar.select v1867 c1_i32_1397 c32_i32_1395
  let v1869 : BitVec 32 := Scalar.remsi v1866 v1868
  let c0_i32_1399 : BitVec 32 := 0#32
  let v1871 : BitVec 1 := Scalar.cmpi .slt v1869 c0_i32_1399
  let c0_i32_1400 : BitVec 32 := 0#32
  let v1872 : BitVec 1 := Scalar.cmpi .slt v1868 c0_i32_1400
  let v1873 : BitVec 1 := Scalar.xori v1871 v1872
  let c0_i32_1398 : BitVec 32 := 0#32
  let v1870 : BitVec 1 := Scalar.cmpi .ne v1869 c0_i32_1398
  let v1874 : BitVec 1 := Scalar.andi v1873 v1870
  let v1875 : BitVec 32 := Scalar.addi v1869 v1868
  let v1876 : BitVec 32 := Scalar.select v1874 v1875 v1869
  let c1_i32_1405 : BitVec 32 := 1#32
  let v1879 : BitVec 32 := Scalar.muli v1876 c1_i32_1405
  let v1880 : BitVec 32 := Scalar.addi c0_i32_1406 v1879
  v1880.toNat
def k0_dev67 (d0 : Dev nD) : Nat :=
  let c0_i32_1421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1409 : BitVec 32 := 5#32
  let v1887 : BitVec 32 := Scalar.addi v2 c5_i32_1409
  let c32_i32_1410 : BitVec 32 := 32#32
  let c0_i32_1411 : BitVec 32 := 0#32
  let v1888 : BitVec 1 := Scalar.cmpi .eq c32_i32_1410 c0_i32_1411
  let c1_i32_1412 : BitVec 32 := 1#32
  let v1889 : BitVec 32 := Scalar.select v1888 c1_i32_1412 c32_i32_1410
  let v1890 : BitVec 32 := Scalar.remsi v1887 v1889
  let c0_i32_1414 : BitVec 32 := 0#32
  let v1892 : BitVec 1 := Scalar.cmpi .slt v1890 c0_i32_1414
  let c0_i32_1415 : BitVec 32 := 0#32
  let v1893 : BitVec 1 := Scalar.cmpi .slt v1889 c0_i32_1415
  let v1894 : BitVec 1 := Scalar.xori v1892 v1893
  let c0_i32_1413 : BitVec 32 := 0#32
  let v1891 : BitVec 1 := Scalar.cmpi .ne v1890 c0_i32_1413
  let v1895 : BitVec 1 := Scalar.andi v1894 v1891
  let v1896 : BitVec 32 := Scalar.addi v1890 v1889
  let v1897 : BitVec 32 := Scalar.select v1895 v1896 v1890
  let c1_i32_1420 : BitVec 32 := 1#32
  let v1900 : BitVec 32 := Scalar.muli v1897 c1_i32_1420
  let v1901 : BitVec 32 := Scalar.addi c0_i32_1421 v1900
  v1901.toNat
def k0_dev68 (d0 : Dev nD) : Nat :=
  let c0_i32_1436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1424 : BitVec 32 := 6#32
  let v1908 : BitVec 32 := Scalar.addi v2 c6_i32_1424
  let c32_i32_1425 : BitVec 32 := 32#32
  let c0_i32_1426 : BitVec 32 := 0#32
  let v1909 : BitVec 1 := Scalar.cmpi .eq c32_i32_1425 c0_i32_1426
  let c1_i32_1427 : BitVec 32 := 1#32
  let v1910 : BitVec 32 := Scalar.select v1909 c1_i32_1427 c32_i32_1425
  let v1911 : BitVec 32 := Scalar.remsi v1908 v1910
  let c0_i32_1429 : BitVec 32 := 0#32
  let v1913 : BitVec 1 := Scalar.cmpi .slt v1911 c0_i32_1429
  let c0_i32_1430 : BitVec 32 := 0#32
  let v1914 : BitVec 1 := Scalar.cmpi .slt v1910 c0_i32_1430
  let v1915 : BitVec 1 := Scalar.xori v1913 v1914
  let c0_i32_1428 : BitVec 32 := 0#32
  let v1912 : BitVec 1 := Scalar.cmpi .ne v1911 c0_i32_1428
  let v1916 : BitVec 1 := Scalar.andi v1915 v1912
  let v1917 : BitVec 32 := Scalar.addi v1911 v1910
  let v1918 : BitVec 32 := Scalar.select v1916 v1917 v1911
  let c1_i32_1435 : BitVec 32 := 1#32
  let v1921 : BitVec 32 := Scalar.muli v1918 c1_i32_1435
  let v1922 : BitVec 32 := Scalar.addi c0_i32_1436 v1921
  v1922.toNat
def k0_dev69 (d0 : Dev nD) : Nat :=
  let c0_i32_1451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1439 : BitVec 32 := 7#32
  let v1929 : BitVec 32 := Scalar.addi v2 c7_i32_1439
  let c32_i32_1440 : BitVec 32 := 32#32
  let c0_i32_1441 : BitVec 32 := 0#32
  let v1930 : BitVec 1 := Scalar.cmpi .eq c32_i32_1440 c0_i32_1441
  let c1_i32_1442 : BitVec 32 := 1#32
  let v1931 : BitVec 32 := Scalar.select v1930 c1_i32_1442 c32_i32_1440
  let v1932 : BitVec 32 := Scalar.remsi v1929 v1931
  let c0_i32_1444 : BitVec 32 := 0#32
  let v1934 : BitVec 1 := Scalar.cmpi .slt v1932 c0_i32_1444
  let c0_i32_1445 : BitVec 32 := 0#32
  let v1935 : BitVec 1 := Scalar.cmpi .slt v1931 c0_i32_1445
  let v1936 : BitVec 1 := Scalar.xori v1934 v1935
  let c0_i32_1443 : BitVec 32 := 0#32
  let v1933 : BitVec 1 := Scalar.cmpi .ne v1932 c0_i32_1443
  let v1937 : BitVec 1 := Scalar.andi v1936 v1933
  let v1938 : BitVec 32 := Scalar.addi v1932 v1931
  let v1939 : BitVec 32 := Scalar.select v1937 v1938 v1932
  let c1_i32_1450 : BitVec 32 := 1#32
  let v1942 : BitVec 32 := Scalar.muli v1939 c1_i32_1450
  let v1943 : BitVec 32 := Scalar.addi c0_i32_1451 v1942
  v1943.toNat
def k0_dev70 (d0 : Dev nD) : Nat :=
  let c0_i32_1466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1454 : BitVec 32 := 8#32
  let v1950 : BitVec 32 := Scalar.addi v2 c8_i32_1454
  let c32_i32_1455 : BitVec 32 := 32#32
  let c0_i32_1456 : BitVec 32 := 0#32
  let v1951 : BitVec 1 := Scalar.cmpi .eq c32_i32_1455 c0_i32_1456
  let c1_i32_1457 : BitVec 32 := 1#32
  let v1952 : BitVec 32 := Scalar.select v1951 c1_i32_1457 c32_i32_1455
  let v1953 : BitVec 32 := Scalar.remsi v1950 v1952
  let c0_i32_1459 : BitVec 32 := 0#32
  let v1955 : BitVec 1 := Scalar.cmpi .slt v1953 c0_i32_1459
  let c0_i32_1460 : BitVec 32 := 0#32
  let v1956 : BitVec 1 := Scalar.cmpi .slt v1952 c0_i32_1460
  let v1957 : BitVec 1 := Scalar.xori v1955 v1956
  let c0_i32_1458 : BitVec 32 := 0#32
  let v1954 : BitVec 1 := Scalar.cmpi .ne v1953 c0_i32_1458
  let v1958 : BitVec 1 := Scalar.andi v1957 v1954
  let v1959 : BitVec 32 := Scalar.addi v1953 v1952
  let v1960 : BitVec 32 := Scalar.select v1958 v1959 v1953
  let c1_i32_1465 : BitVec 32 := 1#32
  let v1963 : BitVec 32 := Scalar.muli v1960 c1_i32_1465
  let v1964 : BitVec 32 := Scalar.addi c0_i32_1466 v1963
  v1964.toNat
def k0_dev71 (d0 : Dev nD) : Nat :=
  let c0_i32_1481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1469 : BitVec 32 := 9#32
  let v1971 : BitVec 32 := Scalar.addi v2 c9_i32_1469
  let c32_i32_1470 : BitVec 32 := 32#32
  let c0_i32_1471 : BitVec 32 := 0#32
  let v1972 : BitVec 1 := Scalar.cmpi .eq c32_i32_1470 c0_i32_1471
  let c1_i32_1472 : BitVec 32 := 1#32
  let v1973 : BitVec 32 := Scalar.select v1972 c1_i32_1472 c32_i32_1470
  let v1974 : BitVec 32 := Scalar.remsi v1971 v1973
  let c0_i32_1474 : BitVec 32 := 0#32
  let v1976 : BitVec 1 := Scalar.cmpi .slt v1974 c0_i32_1474
  let c0_i32_1475 : BitVec 32 := 0#32
  let v1977 : BitVec 1 := Scalar.cmpi .slt v1973 c0_i32_1475
  let v1978 : BitVec 1 := Scalar.xori v1976 v1977
  let c0_i32_1473 : BitVec 32 := 0#32
  let v1975 : BitVec 1 := Scalar.cmpi .ne v1974 c0_i32_1473
  let v1979 : BitVec 1 := Scalar.andi v1978 v1975
  let v1980 : BitVec 32 := Scalar.addi v1974 v1973
  let v1981 : BitVec 32 := Scalar.select v1979 v1980 v1974
  let c1_i32_1480 : BitVec 32 := 1#32
  let v1984 : BitVec 32 := Scalar.muli v1981 c1_i32_1480
  let v1985 : BitVec 32 := Scalar.addi c0_i32_1481 v1984
  v1985.toNat
def k0_dev72 (d0 : Dev nD) : Nat :=
  let c0_i32_1496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1484 : BitVec 32 := 10#32
  let v1992 : BitVec 32 := Scalar.addi v2 c10_i32_1484
  let c32_i32_1485 : BitVec 32 := 32#32
  let c0_i32_1486 : BitVec 32 := 0#32
  let v1993 : BitVec 1 := Scalar.cmpi .eq c32_i32_1485 c0_i32_1486
  let c1_i32_1487 : BitVec 32 := 1#32
  let v1994 : BitVec 32 := Scalar.select v1993 c1_i32_1487 c32_i32_1485
  let v1995 : BitVec 32 := Scalar.remsi v1992 v1994
  let c0_i32_1489 : BitVec 32 := 0#32
  let v1997 : BitVec 1 := Scalar.cmpi .slt v1995 c0_i32_1489
  let c0_i32_1490 : BitVec 32 := 0#32
  let v1998 : BitVec 1 := Scalar.cmpi .slt v1994 c0_i32_1490
  let v1999 : BitVec 1 := Scalar.xori v1997 v1998
  let c0_i32_1488 : BitVec 32 := 0#32
  let v1996 : BitVec 1 := Scalar.cmpi .ne v1995 c0_i32_1488
  let v2000 : BitVec 1 := Scalar.andi v1999 v1996
  let v2001 : BitVec 32 := Scalar.addi v1995 v1994
  let v2002 : BitVec 32 := Scalar.select v2000 v2001 v1995
  let c1_i32_1495 : BitVec 32 := 1#32
  let v2005 : BitVec 32 := Scalar.muli v2002 c1_i32_1495
  let v2006 : BitVec 32 := Scalar.addi c0_i32_1496 v2005
  v2006.toNat
def k0_dev73 (d0 : Dev nD) : Nat :=
  let c0_i32_1511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1499 : BitVec 32 := 11#32
  let v2013 : BitVec 32 := Scalar.addi v2 c11_i32_1499
  let c32_i32_1500 : BitVec 32 := 32#32
  let c0_i32_1501 : BitVec 32 := 0#32
  let v2014 : BitVec 1 := Scalar.cmpi .eq c32_i32_1500 c0_i32_1501
  let c1_i32_1502 : BitVec 32 := 1#32
  let v2015 : BitVec 32 := Scalar.select v2014 c1_i32_1502 c32_i32_1500
  let v2016 : BitVec 32 := Scalar.remsi v2013 v2015
  let c0_i32_1504 : BitVec 32 := 0#32
  let v2018 : BitVec 1 := Scalar.cmpi .slt v2016 c0_i32_1504
  let c0_i32_1505 : BitVec 32 := 0#32
  let v2019 : BitVec 1 := Scalar.cmpi .slt v2015 c0_i32_1505
  let v2020 : BitVec 1 := Scalar.xori v2018 v2019
  let c0_i32_1503 : BitVec 32 := 0#32
  let v2017 : BitVec 1 := Scalar.cmpi .ne v2016 c0_i32_1503
  let v2021 : BitVec 1 := Scalar.andi v2020 v2017
  let v2022 : BitVec 32 := Scalar.addi v2016 v2015
  let v2023 : BitVec 32 := Scalar.select v2021 v2022 v2016
  let c1_i32_1510 : BitVec 32 := 1#32
  let v2026 : BitVec 32 := Scalar.muli v2023 c1_i32_1510
  let v2027 : BitVec 32 := Scalar.addi c0_i32_1511 v2026
  v2027.toNat
def k0_dev74 (d0 : Dev nD) : Nat :=
  let c0_i32_1526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1514 : BitVec 32 := 12#32
  let v2034 : BitVec 32 := Scalar.addi v2 c12_i32_1514
  let c32_i32_1515 : BitVec 32 := 32#32
  let c0_i32_1516 : BitVec 32 := 0#32
  let v2035 : BitVec 1 := Scalar.cmpi .eq c32_i32_1515 c0_i32_1516
  let c1_i32_1517 : BitVec 32 := 1#32
  let v2036 : BitVec 32 := Scalar.select v2035 c1_i32_1517 c32_i32_1515
  let v2037 : BitVec 32 := Scalar.remsi v2034 v2036
  let c0_i32_1519 : BitVec 32 := 0#32
  let v2039 : BitVec 1 := Scalar.cmpi .slt v2037 c0_i32_1519
  let c0_i32_1520 : BitVec 32 := 0#32
  let v2040 : BitVec 1 := Scalar.cmpi .slt v2036 c0_i32_1520
  let v2041 : BitVec 1 := Scalar.xori v2039 v2040
  let c0_i32_1518 : BitVec 32 := 0#32
  let v2038 : BitVec 1 := Scalar.cmpi .ne v2037 c0_i32_1518
  let v2042 : BitVec 1 := Scalar.andi v2041 v2038
  let v2043 : BitVec 32 := Scalar.addi v2037 v2036
  let v2044 : BitVec 32 := Scalar.select v2042 v2043 v2037
  let c1_i32_1525 : BitVec 32 := 1#32
  let v2047 : BitVec 32 := Scalar.muli v2044 c1_i32_1525
  let v2048 : BitVec 32 := Scalar.addi c0_i32_1526 v2047
  v2048.toNat
def k0_dev75 (d0 : Dev nD) : Nat :=
  let c0_i32_1541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1529 : BitVec 32 := 13#32
  let v2055 : BitVec 32 := Scalar.addi v2 c13_i32_1529
  let c32_i32_1530 : BitVec 32 := 32#32
  let c0_i32_1531 : BitVec 32 := 0#32
  let v2056 : BitVec 1 := Scalar.cmpi .eq c32_i32_1530 c0_i32_1531
  let c1_i32_1532 : BitVec 32 := 1#32
  let v2057 : BitVec 32 := Scalar.select v2056 c1_i32_1532 c32_i32_1530
  let v2058 : BitVec 32 := Scalar.remsi v2055 v2057
  let c0_i32_1534 : BitVec 32 := 0#32
  let v2060 : BitVec 1 := Scalar.cmpi .slt v2058 c0_i32_1534
  let c0_i32_1535 : BitVec 32 := 0#32
  let v2061 : BitVec 1 := Scalar.cmpi .slt v2057 c0_i32_1535
  let v2062 : BitVec 1 := Scalar.xori v2060 v2061
  let c0_i32_1533 : BitVec 32 := 0#32
  let v2059 : BitVec 1 := Scalar.cmpi .ne v2058 c0_i32_1533
  let v2063 : BitVec 1 := Scalar.andi v2062 v2059
  let v2064 : BitVec 32 := Scalar.addi v2058 v2057
  let v2065 : BitVec 32 := Scalar.select v2063 v2064 v2058
  let c1_i32_1540 : BitVec 32 := 1#32
  let v2068 : BitVec 32 := Scalar.muli v2065 c1_i32_1540
  let v2069 : BitVec 32 := Scalar.addi c0_i32_1541 v2068
  v2069.toNat
def k0_dev76 (d0 : Dev nD) : Nat :=
  let c0_i32_1556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1544 : BitVec 32 := 14#32
  let v2076 : BitVec 32 := Scalar.addi v2 c14_i32_1544
  let c32_i32_1545 : BitVec 32 := 32#32
  let c0_i32_1546 : BitVec 32 := 0#32
  let v2077 : BitVec 1 := Scalar.cmpi .eq c32_i32_1545 c0_i32_1546
  let c1_i32_1547 : BitVec 32 := 1#32
  let v2078 : BitVec 32 := Scalar.select v2077 c1_i32_1547 c32_i32_1545
  let v2079 : BitVec 32 := Scalar.remsi v2076 v2078
  let c0_i32_1549 : BitVec 32 := 0#32
  let v2081 : BitVec 1 := Scalar.cmpi .slt v2079 c0_i32_1549
  let c0_i32_1550 : BitVec 32 := 0#32
  let v2082 : BitVec 1 := Scalar.cmpi .slt v2078 c0_i32_1550
  let v2083 : BitVec 1 := Scalar.xori v2081 v2082
  let c0_i32_1548 : BitVec 32 := 0#32
  let v2080 : BitVec 1 := Scalar.cmpi .ne v2079 c0_i32_1548
  let v2084 : BitVec 1 := Scalar.andi v2083 v2080
  let v2085 : BitVec 32 := Scalar.addi v2079 v2078
  let v2086 : BitVec 32 := Scalar.select v2084 v2085 v2079
  let c1_i32_1555 : BitVec 32 := 1#32
  let v2089 : BitVec 32 := Scalar.muli v2086 c1_i32_1555
  let v2090 : BitVec 32 := Scalar.addi c0_i32_1556 v2089
  v2090.toNat
def k0_dev77 (d0 : Dev nD) : Nat :=
  let c0_i32_1571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1559 : BitVec 32 := 15#32
  let v2097 : BitVec 32 := Scalar.addi v2 c15_i32_1559
  let c32_i32_1560 : BitVec 32 := 32#32
  let c0_i32_1561 : BitVec 32 := 0#32
  let v2098 : BitVec 1 := Scalar.cmpi .eq c32_i32_1560 c0_i32_1561
  let c1_i32_1562 : BitVec 32 := 1#32
  let v2099 : BitVec 32 := Scalar.select v2098 c1_i32_1562 c32_i32_1560
  let v2100 : BitVec 32 := Scalar.remsi v2097 v2099
  let c0_i32_1564 : BitVec 32 := 0#32
  let v2102 : BitVec 1 := Scalar.cmpi .slt v2100 c0_i32_1564
  let c0_i32_1565 : BitVec 32 := 0#32
  let v2103 : BitVec 1 := Scalar.cmpi .slt v2099 c0_i32_1565
  let v2104 : BitVec 1 := Scalar.xori v2102 v2103
  let c0_i32_1563 : BitVec 32 := 0#32
  let v2101 : BitVec 1 := Scalar.cmpi .ne v2100 c0_i32_1563
  let v2105 : BitVec 1 := Scalar.andi v2104 v2101
  let v2106 : BitVec 32 := Scalar.addi v2100 v2099
  let v2107 : BitVec 32 := Scalar.select v2105 v2106 v2100
  let c1_i32_1570 : BitVec 32 := 1#32
  let v2110 : BitVec 32 := Scalar.muli v2107 c1_i32_1570
  let v2111 : BitVec 32 := Scalar.addi c0_i32_1571 v2110
  v2111.toNat
def k0_dev78 (d0 : Dev nD) : Nat :=
  let c0_i32_1586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1574 : BitVec 32 := 16#32
  let v2118 : BitVec 32 := Scalar.addi v2 c16_i32_1574
  let c32_i32_1575 : BitVec 32 := 32#32
  let c0_i32_1576 : BitVec 32 := 0#32
  let v2119 : BitVec 1 := Scalar.cmpi .eq c32_i32_1575 c0_i32_1576
  let c1_i32_1577 : BitVec 32 := 1#32
  let v2120 : BitVec 32 := Scalar.select v2119 c1_i32_1577 c32_i32_1575
  let v2121 : BitVec 32 := Scalar.remsi v2118 v2120
  let c0_i32_1579 : BitVec 32 := 0#32
  let v2123 : BitVec 1 := Scalar.cmpi .slt v2121 c0_i32_1579
  let c0_i32_1580 : BitVec 32 := 0#32
  let v2124 : BitVec 1 := Scalar.cmpi .slt v2120 c0_i32_1580
  let v2125 : BitVec 1 := Scalar.xori v2123 v2124
  let c0_i32_1578 : BitVec 32 := 0#32
  let v2122 : BitVec 1 := Scalar.cmpi .ne v2121 c0_i32_1578
  let v2126 : BitVec 1 := Scalar.andi v2125 v2122
  let v2127 : BitVec 32 := Scalar.addi v2121 v2120
  let v2128 : BitVec 32 := Scalar.select v2126 v2127 v2121
  let c1_i32_1585 : BitVec 32 := 1#32
  let v2131 : BitVec 32 := Scalar.muli v2128 c1_i32_1585
  let v2132 : BitVec 32 := Scalar.addi c0_i32_1586 v2131
  v2132.toNat
def k0_dev79 (d0 : Dev nD) : Nat :=
  let c0_i32_1601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1589 : BitVec 32 := 17#32
  let v2139 : BitVec 32 := Scalar.addi v2 c17_i32_1589
  let c32_i32_1590 : BitVec 32 := 32#32
  let c0_i32_1591 : BitVec 32 := 0#32
  let v2140 : BitVec 1 := Scalar.cmpi .eq c32_i32_1590 c0_i32_1591
  let c1_i32_1592 : BitVec 32 := 1#32
  let v2141 : BitVec 32 := Scalar.select v2140 c1_i32_1592 c32_i32_1590
  let v2142 : BitVec 32 := Scalar.remsi v2139 v2141
  let c0_i32_1594 : BitVec 32 := 0#32
  let v2144 : BitVec 1 := Scalar.cmpi .slt v2142 c0_i32_1594
  let c0_i32_1595 : BitVec 32 := 0#32
  let v2145 : BitVec 1 := Scalar.cmpi .slt v2141 c0_i32_1595
  let v2146 : BitVec 1 := Scalar.xori v2144 v2145
  let c0_i32_1593 : BitVec 32 := 0#32
  let v2143 : BitVec 1 := Scalar.cmpi .ne v2142 c0_i32_1593
  let v2147 : BitVec 1 := Scalar.andi v2146 v2143
  let v2148 : BitVec 32 := Scalar.addi v2142 v2141
  let v2149 : BitVec 32 := Scalar.select v2147 v2148 v2142
  let c1_i32_1600 : BitVec 32 := 1#32
  let v2152 : BitVec 32 := Scalar.muli v2149 c1_i32_1600
  let v2153 : BitVec 32 := Scalar.addi c0_i32_1601 v2152
  v2153.toNat
def k0_dev80 (d0 : Dev nD) : Nat :=
  let c0_i32_1616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1604 : BitVec 32 := 18#32
  let v2160 : BitVec 32 := Scalar.addi v2 c18_i32_1604
  let c32_i32_1605 : BitVec 32 := 32#32
  let c0_i32_1606 : BitVec 32 := 0#32
  let v2161 : BitVec 1 := Scalar.cmpi .eq c32_i32_1605 c0_i32_1606
  let c1_i32_1607 : BitVec 32 := 1#32
  let v2162 : BitVec 32 := Scalar.select v2161 c1_i32_1607 c32_i32_1605
  let v2163 : BitVec 32 := Scalar.remsi v2160 v2162
  let c0_i32_1609 : BitVec 32 := 0#32
  let v2165 : BitVec 1 := Scalar.cmpi .slt v2163 c0_i32_1609
  let c0_i32_1610 : BitVec 32 := 0#32
  let v2166 : BitVec 1 := Scalar.cmpi .slt v2162 c0_i32_1610
  let v2167 : BitVec 1 := Scalar.xori v2165 v2166
  let c0_i32_1608 : BitVec 32 := 0#32
  let v2164 : BitVec 1 := Scalar.cmpi .ne v2163 c0_i32_1608
  let v2168 : BitVec 1 := Scalar.andi v2167 v2164
  let v2169 : BitVec 32 := Scalar.addi v2163 v2162
  let v2170 : BitVec 32 := Scalar.select v2168 v2169 v2163
  let c1_i32_1615 : BitVec 32 := 1#32
  let v2173 : BitVec 32 := Scalar.muli v2170 c1_i32_1615
  let v2174 : BitVec 32 := Scalar.addi c0_i32_1616 v2173
  v2174.toNat
def k0_dev81 (d0 : Dev nD) : Nat :=
  let c0_i32_1631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1619 : BitVec 32 := 19#32
  let v2181 : BitVec 32 := Scalar.addi v2 c19_i32_1619
  let c32_i32_1620 : BitVec 32 := 32#32
  let c0_i32_1621 : BitVec 32 := 0#32
  let v2182 : BitVec 1 := Scalar.cmpi .eq c32_i32_1620 c0_i32_1621
  let c1_i32_1622 : BitVec 32 := 1#32
  let v2183 : BitVec 32 := Scalar.select v2182 c1_i32_1622 c32_i32_1620
  let v2184 : BitVec 32 := Scalar.remsi v2181 v2183
  let c0_i32_1624 : BitVec 32 := 0#32
  let v2186 : BitVec 1 := Scalar.cmpi .slt v2184 c0_i32_1624
  let c0_i32_1625 : BitVec 32 := 0#32
  let v2187 : BitVec 1 := Scalar.cmpi .slt v2183 c0_i32_1625
  let v2188 : BitVec 1 := Scalar.xori v2186 v2187
  let c0_i32_1623 : BitVec 32 := 0#32
  let v2185 : BitVec 1 := Scalar.cmpi .ne v2184 c0_i32_1623
  let v2189 : BitVec 1 := Scalar.andi v2188 v2185
  let v2190 : BitVec 32 := Scalar.addi v2184 v2183
  let v2191 : BitVec 32 := Scalar.select v2189 v2190 v2184
  let c1_i32_1630 : BitVec 32 := 1#32
  let v2194 : BitVec 32 := Scalar.muli v2191 c1_i32_1630
  let v2195 : BitVec 32 := Scalar.addi c0_i32_1631 v2194
  v2195.toNat
def k0_dev82 (d0 : Dev nD) : Nat :=
  let c0_i32_1646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1634 : BitVec 32 := 20#32
  let v2202 : BitVec 32 := Scalar.addi v2 c20_i32_1634
  let c32_i32_1635 : BitVec 32 := 32#32
  let c0_i32_1636 : BitVec 32 := 0#32
  let v2203 : BitVec 1 := Scalar.cmpi .eq c32_i32_1635 c0_i32_1636
  let c1_i32_1637 : BitVec 32 := 1#32
  let v2204 : BitVec 32 := Scalar.select v2203 c1_i32_1637 c32_i32_1635
  let v2205 : BitVec 32 := Scalar.remsi v2202 v2204
  let c0_i32_1639 : BitVec 32 := 0#32
  let v2207 : BitVec 1 := Scalar.cmpi .slt v2205 c0_i32_1639
  let c0_i32_1640 : BitVec 32 := 0#32
  let v2208 : BitVec 1 := Scalar.cmpi .slt v2204 c0_i32_1640
  let v2209 : BitVec 1 := Scalar.xori v2207 v2208
  let c0_i32_1638 : BitVec 32 := 0#32
  let v2206 : BitVec 1 := Scalar.cmpi .ne v2205 c0_i32_1638
  let v2210 : BitVec 1 := Scalar.andi v2209 v2206
  let v2211 : BitVec 32 := Scalar.addi v2205 v2204
  let v2212 : BitVec 32 := Scalar.select v2210 v2211 v2205
  let c1_i32_1645 : BitVec 32 := 1#32
  let v2215 : BitVec 32 := Scalar.muli v2212 c1_i32_1645
  let v2216 : BitVec 32 := Scalar.addi c0_i32_1646 v2215
  v2216.toNat
def k0_dev83 (d0 : Dev nD) : Nat :=
  let c0_i32_1661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1649 : BitVec 32 := 21#32
  let v2223 : BitVec 32 := Scalar.addi v2 c21_i32_1649
  let c32_i32_1650 : BitVec 32 := 32#32
  let c0_i32_1651 : BitVec 32 := 0#32
  let v2224 : BitVec 1 := Scalar.cmpi .eq c32_i32_1650 c0_i32_1651
  let c1_i32_1652 : BitVec 32 := 1#32
  let v2225 : BitVec 32 := Scalar.select v2224 c1_i32_1652 c32_i32_1650
  let v2226 : BitVec 32 := Scalar.remsi v2223 v2225
  let c0_i32_1654 : BitVec 32 := 0#32
  let v2228 : BitVec 1 := Scalar.cmpi .slt v2226 c0_i32_1654
  let c0_i32_1655 : BitVec 32 := 0#32
  let v2229 : BitVec 1 := Scalar.cmpi .slt v2225 c0_i32_1655
  let v2230 : BitVec 1 := Scalar.xori v2228 v2229
  let c0_i32_1653 : BitVec 32 := 0#32
  let v2227 : BitVec 1 := Scalar.cmpi .ne v2226 c0_i32_1653
  let v2231 : BitVec 1 := Scalar.andi v2230 v2227
  let v2232 : BitVec 32 := Scalar.addi v2226 v2225
  let v2233 : BitVec 32 := Scalar.select v2231 v2232 v2226
  let c1_i32_1660 : BitVec 32 := 1#32
  let v2236 : BitVec 32 := Scalar.muli v2233 c1_i32_1660
  let v2237 : BitVec 32 := Scalar.addi c0_i32_1661 v2236
  v2237.toNat
def k0_dev84 (d0 : Dev nD) : Nat :=
  let c0_i32_1676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1664 : BitVec 32 := 22#32
  let v2244 : BitVec 32 := Scalar.addi v2 c22_i32_1664
  let c32_i32_1665 : BitVec 32 := 32#32
  let c0_i32_1666 : BitVec 32 := 0#32
  let v2245 : BitVec 1 := Scalar.cmpi .eq c32_i32_1665 c0_i32_1666
  let c1_i32_1667 : BitVec 32 := 1#32
  let v2246 : BitVec 32 := Scalar.select v2245 c1_i32_1667 c32_i32_1665
  let v2247 : BitVec 32 := Scalar.remsi v2244 v2246
  let c0_i32_1669 : BitVec 32 := 0#32
  let v2249 : BitVec 1 := Scalar.cmpi .slt v2247 c0_i32_1669
  let c0_i32_1670 : BitVec 32 := 0#32
  let v2250 : BitVec 1 := Scalar.cmpi .slt v2246 c0_i32_1670
  let v2251 : BitVec 1 := Scalar.xori v2249 v2250
  let c0_i32_1668 : BitVec 32 := 0#32
  let v2248 : BitVec 1 := Scalar.cmpi .ne v2247 c0_i32_1668
  let v2252 : BitVec 1 := Scalar.andi v2251 v2248
  let v2253 : BitVec 32 := Scalar.addi v2247 v2246
  let v2254 : BitVec 32 := Scalar.select v2252 v2253 v2247
  let c1_i32_1675 : BitVec 32 := 1#32
  let v2257 : BitVec 32 := Scalar.muli v2254 c1_i32_1675
  let v2258 : BitVec 32 := Scalar.addi c0_i32_1676 v2257
  v2258.toNat
def k0_dev85 (d0 : Dev nD) : Nat :=
  let c0_i32_1691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1679 : BitVec 32 := 23#32
  let v2265 : BitVec 32 := Scalar.addi v2 c23_i32_1679
  let c32_i32_1680 : BitVec 32 := 32#32
  let c0_i32_1681 : BitVec 32 := 0#32
  let v2266 : BitVec 1 := Scalar.cmpi .eq c32_i32_1680 c0_i32_1681
  let c1_i32_1682 : BitVec 32 := 1#32
  let v2267 : BitVec 32 := Scalar.select v2266 c1_i32_1682 c32_i32_1680
  let v2268 : BitVec 32 := Scalar.remsi v2265 v2267
  let c0_i32_1684 : BitVec 32 := 0#32
  let v2270 : BitVec 1 := Scalar.cmpi .slt v2268 c0_i32_1684
  let c0_i32_1685 : BitVec 32 := 0#32
  let v2271 : BitVec 1 := Scalar.cmpi .slt v2267 c0_i32_1685
  let v2272 : BitVec 1 := Scalar.xori v2270 v2271
  let c0_i32_1683 : BitVec 32 := 0#32
  let v2269 : BitVec 1 := Scalar.cmpi .ne v2268 c0_i32_1683
  let v2273 : BitVec 1 := Scalar.andi v2272 v2269
  let v2274 : BitVec 32 := Scalar.addi v2268 v2267
  let v2275 : BitVec 32 := Scalar.select v2273 v2274 v2268
  let c1_i32_1690 : BitVec 32 := 1#32
  let v2278 : BitVec 32 := Scalar.muli v2275 c1_i32_1690
  let v2279 : BitVec 32 := Scalar.addi c0_i32_1691 v2278
  v2279.toNat
def k0_dev86 (d0 : Dev nD) : Nat :=
  let c0_i32_1706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1694 : BitVec 32 := 24#32
  let v2286 : BitVec 32 := Scalar.addi v2 c24_i32_1694
  let c32_i32_1695 : BitVec 32 := 32#32
  let c0_i32_1696 : BitVec 32 := 0#32
  let v2287 : BitVec 1 := Scalar.cmpi .eq c32_i32_1695 c0_i32_1696
  let c1_i32_1697 : BitVec 32 := 1#32
  let v2288 : BitVec 32 := Scalar.select v2287 c1_i32_1697 c32_i32_1695
  let v2289 : BitVec 32 := Scalar.remsi v2286 v2288
  let c0_i32_1699 : BitVec 32 := 0#32
  let v2291 : BitVec 1 := Scalar.cmpi .slt v2289 c0_i32_1699
  let c0_i32_1700 : BitVec 32 := 0#32
  let v2292 : BitVec 1 := Scalar.cmpi .slt v2288 c0_i32_1700
  let v2293 : BitVec 1 := Scalar.xori v2291 v2292
  let c0_i32_1698 : BitVec 32 := 0#32
  let v2290 : BitVec 1 := Scalar.cmpi .ne v2289 c0_i32_1698
  let v2294 : BitVec 1 := Scalar.andi v2293 v2290
  let v2295 : BitVec 32 := Scalar.addi v2289 v2288
  let v2296 : BitVec 32 := Scalar.select v2294 v2295 v2289
  let c1_i32_1705 : BitVec 32 := 1#32
  let v2299 : BitVec 32 := Scalar.muli v2296 c1_i32_1705
  let v2300 : BitVec 32 := Scalar.addi c0_i32_1706 v2299
  v2300.toNat
def k0_dev87 (d0 : Dev nD) : Nat :=
  let c0_i32_1721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1709 : BitVec 32 := 25#32
  let v2307 : BitVec 32 := Scalar.addi v2 c25_i32_1709
  let c32_i32_1710 : BitVec 32 := 32#32
  let c0_i32_1711 : BitVec 32 := 0#32
  let v2308 : BitVec 1 := Scalar.cmpi .eq c32_i32_1710 c0_i32_1711
  let c1_i32_1712 : BitVec 32 := 1#32
  let v2309 : BitVec 32 := Scalar.select v2308 c1_i32_1712 c32_i32_1710
  let v2310 : BitVec 32 := Scalar.remsi v2307 v2309
  let c0_i32_1714 : BitVec 32 := 0#32
  let v2312 : BitVec 1 := Scalar.cmpi .slt v2310 c0_i32_1714
  let c0_i32_1715 : BitVec 32 := 0#32
  let v2313 : BitVec 1 := Scalar.cmpi .slt v2309 c0_i32_1715
  let v2314 : BitVec 1 := Scalar.xori v2312 v2313
  let c0_i32_1713 : BitVec 32 := 0#32
  let v2311 : BitVec 1 := Scalar.cmpi .ne v2310 c0_i32_1713
  let v2315 : BitVec 1 := Scalar.andi v2314 v2311
  let v2316 : BitVec 32 := Scalar.addi v2310 v2309
  let v2317 : BitVec 32 := Scalar.select v2315 v2316 v2310
  let c1_i32_1720 : BitVec 32 := 1#32
  let v2320 : BitVec 32 := Scalar.muli v2317 c1_i32_1720
  let v2321 : BitVec 32 := Scalar.addi c0_i32_1721 v2320
  v2321.toNat
def k0_dev88 (d0 : Dev nD) : Nat :=
  let c0_i32_1736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1724 : BitVec 32 := 26#32
  let v2328 : BitVec 32 := Scalar.addi v2 c26_i32_1724
  let c32_i32_1725 : BitVec 32 := 32#32
  let c0_i32_1726 : BitVec 32 := 0#32
  let v2329 : BitVec 1 := Scalar.cmpi .eq c32_i32_1725 c0_i32_1726
  let c1_i32_1727 : BitVec 32 := 1#32
  let v2330 : BitVec 32 := Scalar.select v2329 c1_i32_1727 c32_i32_1725
  let v2331 : BitVec 32 := Scalar.remsi v2328 v2330
  let c0_i32_1729 : BitVec 32 := 0#32
  let v2333 : BitVec 1 := Scalar.cmpi .slt v2331 c0_i32_1729
  let c0_i32_1730 : BitVec 32 := 0#32
  let v2334 : BitVec 1 := Scalar.cmpi .slt v2330 c0_i32_1730
  let v2335 : BitVec 1 := Scalar.xori v2333 v2334
  let c0_i32_1728 : BitVec 32 := 0#32
  let v2332 : BitVec 1 := Scalar.cmpi .ne v2331 c0_i32_1728
  let v2336 : BitVec 1 := Scalar.andi v2335 v2332
  let v2337 : BitVec 32 := Scalar.addi v2331 v2330
  let v2338 : BitVec 32 := Scalar.select v2336 v2337 v2331
  let c1_i32_1735 : BitVec 32 := 1#32
  let v2341 : BitVec 32 := Scalar.muli v2338 c1_i32_1735
  let v2342 : BitVec 32 := Scalar.addi c0_i32_1736 v2341
  v2342.toNat
def k0_dev89 (d0 : Dev nD) : Nat :=
  let c0_i32_1751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1739 : BitVec 32 := 27#32
  let v2349 : BitVec 32 := Scalar.addi v2 c27_i32_1739
  let c32_i32_1740 : BitVec 32 := 32#32
  let c0_i32_1741 : BitVec 32 := 0#32
  let v2350 : BitVec 1 := Scalar.cmpi .eq c32_i32_1740 c0_i32_1741
  let c1_i32_1742 : BitVec 32 := 1#32
  let v2351 : BitVec 32 := Scalar.select v2350 c1_i32_1742 c32_i32_1740
  let v2352 : BitVec 32 := Scalar.remsi v2349 v2351
  let c0_i32_1744 : BitVec 32 := 0#32
  let v2354 : BitVec 1 := Scalar.cmpi .slt v2352 c0_i32_1744
  let c0_i32_1745 : BitVec 32 := 0#32
  let v2355 : BitVec 1 := Scalar.cmpi .slt v2351 c0_i32_1745
  let v2356 : BitVec 1 := Scalar.xori v2354 v2355
  let c0_i32_1743 : BitVec 32 := 0#32
  let v2353 : BitVec 1 := Scalar.cmpi .ne v2352 c0_i32_1743
  let v2357 : BitVec 1 := Scalar.andi v2356 v2353
  let v2358 : BitVec 32 := Scalar.addi v2352 v2351
  let v2359 : BitVec 32 := Scalar.select v2357 v2358 v2352
  let c1_i32_1750 : BitVec 32 := 1#32
  let v2362 : BitVec 32 := Scalar.muli v2359 c1_i32_1750
  let v2363 : BitVec 32 := Scalar.addi c0_i32_1751 v2362
  v2363.toNat
def k0_dev90 (d0 : Dev nD) : Nat :=
  let c0_i32_1766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1754 : BitVec 32 := 28#32
  let v2370 : BitVec 32 := Scalar.addi v2 c28_i32_1754
  let c32_i32_1755 : BitVec 32 := 32#32
  let c0_i32_1756 : BitVec 32 := 0#32
  let v2371 : BitVec 1 := Scalar.cmpi .eq c32_i32_1755 c0_i32_1756
  let c1_i32_1757 : BitVec 32 := 1#32
  let v2372 : BitVec 32 := Scalar.select v2371 c1_i32_1757 c32_i32_1755
  let v2373 : BitVec 32 := Scalar.remsi v2370 v2372
  let c0_i32_1759 : BitVec 32 := 0#32
  let v2375 : BitVec 1 := Scalar.cmpi .slt v2373 c0_i32_1759
  let c0_i32_1760 : BitVec 32 := 0#32
  let v2376 : BitVec 1 := Scalar.cmpi .slt v2372 c0_i32_1760
  let v2377 : BitVec 1 := Scalar.xori v2375 v2376
  let c0_i32_1758 : BitVec 32 := 0#32
  let v2374 : BitVec 1 := Scalar.cmpi .ne v2373 c0_i32_1758
  let v2378 : BitVec 1 := Scalar.andi v2377 v2374
  let v2379 : BitVec 32 := Scalar.addi v2373 v2372
  let v2380 : BitVec 32 := Scalar.select v2378 v2379 v2373
  let c1_i32_1765 : BitVec 32 := 1#32
  let v2383 : BitVec 32 := Scalar.muli v2380 c1_i32_1765
  let v2384 : BitVec 32 := Scalar.addi c0_i32_1766 v2383
  v2384.toNat
def k0_dev91 (d0 : Dev nD) : Nat :=
  let c0_i32_1781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1769 : BitVec 32 := 29#32
  let v2391 : BitVec 32 := Scalar.addi v2 c29_i32_1769
  let c32_i32_1770 : BitVec 32 := 32#32
  let c0_i32_1771 : BitVec 32 := 0#32
  let v2392 : BitVec 1 := Scalar.cmpi .eq c32_i32_1770 c0_i32_1771
  let c1_i32_1772 : BitVec 32 := 1#32
  let v2393 : BitVec 32 := Scalar.select v2392 c1_i32_1772 c32_i32_1770
  let v2394 : BitVec 32 := Scalar.remsi v2391 v2393
  let c0_i32_1774 : BitVec 32 := 0#32
  let v2396 : BitVec 1 := Scalar.cmpi .slt v2394 c0_i32_1774
  let c0_i32_1775 : BitVec 32 := 0#32
  let v2397 : BitVec 1 := Scalar.cmpi .slt v2393 c0_i32_1775
  let v2398 : BitVec 1 := Scalar.xori v2396 v2397
  let c0_i32_1773 : BitVec 32 := 0#32
  let v2395 : BitVec 1 := Scalar.cmpi .ne v2394 c0_i32_1773
  let v2399 : BitVec 1 := Scalar.andi v2398 v2395
  let v2400 : BitVec 32 := Scalar.addi v2394 v2393
  let v2401 : BitVec 32 := Scalar.select v2399 v2400 v2394
  let c1_i32_1780 : BitVec 32 := 1#32
  let v2404 : BitVec 32 := Scalar.muli v2401 c1_i32_1780
  let v2405 : BitVec 32 := Scalar.addi c0_i32_1781 v2404
  v2405.toNat
def k0_dev92 (d0 : Dev nD) : Nat :=
  let c0_i32_1796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1784 : BitVec 32 := 30#32
  let v2412 : BitVec 32 := Scalar.addi v2 c30_i32_1784
  let c32_i32_1785 : BitVec 32 := 32#32
  let c0_i32_1786 : BitVec 32 := 0#32
  let v2413 : BitVec 1 := Scalar.cmpi .eq c32_i32_1785 c0_i32_1786
  let c1_i32_1787 : BitVec 32 := 1#32
  let v2414 : BitVec 32 := Scalar.select v2413 c1_i32_1787 c32_i32_1785
  let v2415 : BitVec 32 := Scalar.remsi v2412 v2414
  let c0_i32_1789 : BitVec 32 := 0#32
  let v2417 : BitVec 1 := Scalar.cmpi .slt v2415 c0_i32_1789
  let c0_i32_1790 : BitVec 32 := 0#32
  let v2418 : BitVec 1 := Scalar.cmpi .slt v2414 c0_i32_1790
  let v2419 : BitVec 1 := Scalar.xori v2417 v2418
  let c0_i32_1788 : BitVec 32 := 0#32
  let v2416 : BitVec 1 := Scalar.cmpi .ne v2415 c0_i32_1788
  let v2420 : BitVec 1 := Scalar.andi v2419 v2416
  let v2421 : BitVec 32 := Scalar.addi v2415 v2414
  let v2422 : BitVec 32 := Scalar.select v2420 v2421 v2415
  let c1_i32_1795 : BitVec 32 := 1#32
  let v2425 : BitVec 32 := Scalar.muli v2422 c1_i32_1795
  let v2426 : BitVec 32 := Scalar.addi c0_i32_1796 v2425
  v2426.toNat
def k0_dev93 (d0 : Dev nD) : Nat :=
  let c0_i32_1811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1799 : BitVec 32 := 31#32
  let v2433 : BitVec 32 := Scalar.addi v2 c31_i32_1799
  let c32_i32_1800 : BitVec 32 := 32#32
  let c0_i32_1801 : BitVec 32 := 0#32
  let v2434 : BitVec 1 := Scalar.cmpi .eq c32_i32_1800 c0_i32_1801
  let c1_i32_1802 : BitVec 32 := 1#32
  let v2435 : BitVec 32 := Scalar.select v2434 c1_i32_1802 c32_i32_1800
  let v2436 : BitVec 32 := Scalar.remsi v2433 v2435
  let c0_i32_1804 : BitVec 32 := 0#32
  let v2438 : BitVec 1 := Scalar.cmpi .slt v2436 c0_i32_1804
  let c0_i32_1805 : BitVec 32 := 0#32
  let v2439 : BitVec 1 := Scalar.cmpi .slt v2435 c0_i32_1805
  let v2440 : BitVec 1 := Scalar.xori v2438 v2439
  let c0_i32_1803 : BitVec 32 := 0#32
  let v2437 : BitVec 1 := Scalar.cmpi .ne v2436 c0_i32_1803
  let v2441 : BitVec 1 := Scalar.andi v2440 v2437
  let v2442 : BitVec 32 := Scalar.addi v2436 v2435
  let v2443 : BitVec 32 := Scalar.select v2441 v2442 v2436
  let c1_i32_1810 : BitVec 32 := 1#32
  let v2446 : BitVec 32 := Scalar.muli v2443 c1_i32_1810
  let v2447 : BitVec 32 := Scalar.addi c0_i32_1811 v2446
  v2447.toNat
def k0_off4 (d0 : Dev nD) (c1_i32_1815 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1814 : BitVec 32 := 32#32
  let v2454 : BitVec 32 := Scalar.addi v2 c32_i32_1814
  let v2455 : BitVec 32 := Scalar.subi v2454 c1_i32_1815
  let c32_i32_1816 : BitVec 32 := 32#32
  let c0_i32_1817 : BitVec 32 := 0#32
  let v2456 : BitVec 1 := Scalar.cmpi .eq c32_i32_1816 c0_i32_1817
  let c1_i32_1818 : BitVec 32 := 1#32
  let v2457 : BitVec 32 := Scalar.select v2456 c1_i32_1818 c32_i32_1816
  let v2458 : BitVec 32 := Scalar.remsi v2455 v2457
  let c0_i32_1820 : BitVec 32 := 0#32
  let v2460 : BitVec 1 := Scalar.cmpi .slt v2458 c0_i32_1820
  let c0_i32_1821 : BitVec 32 := 0#32
  let v2461 : BitVec 1 := Scalar.cmpi .slt v2457 c0_i32_1821
  let v2462 : BitVec 1 := Scalar.xori v2460 v2461
  let c0_i32_1819 : BitVec 32 := 0#32
  let v2459 : BitVec 1 := Scalar.cmpi .ne v2458 c0_i32_1819
  let v2463 : BitVec 1 := Scalar.andi v2462 v2459
  let v2464 : BitVec 32 := Scalar.addi v2458 v2457
  let v2465 : BitVec 32 := Scalar.select v2463 v2464 v2458
  let c32_i32_1823 : BitVec 32 := 32#32
  let v2467 : BitVec 32 := Scalar.muli v2465 c32_i32_1823
  let c0_i32_1828 : BitVec 32 := 0#32
  ![v2467.toNat, 0]
abbrev stage0_0 : Fin 1 → Memref sig .tc .vmem S1024x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x768 : Shape := ⟨2, ![1024, 768]⟩
abbrev S768x16384 : Shape := ⟨2, ![768, 16384]⟩
abbrev S2x512x256x64 : Shape := ⟨4, ![2, 512, 256, 64]⟩
abbrev S16384x768 : Shape := ⟨2, ![16384, 768]⟩
abbrev S2x512x768 : Shape := ⟨3, ![2, 512, 768]⟩
abbrev S2x512x16384 : Shape := ⟨3, ![2, 512, 16384]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S2x256x512x512 : Shape := ⟨4, ![2, 256, 512, 512]⟩
abbrev S1x1x512x512 : Shape := ⟨4, ![1, 1, 512, 512]⟩
abbrev S2x256x512 : Shape := ⟨3, ![2, 256, 512]⟩
abbrev S2x256x512x1 : Shape := ⟨4, ![2, 256, 512, 1]⟩
abbrev S1x1x512x1 : Shape := ⟨4, ![1, 1, 512, 1]⟩
abbrev S2x256x64x512 : Shape := ⟨4, ![2, 256, 64, 512]⟩

abbrev nBuf : Space → Nat
  | .hbm => 79
  | .vmem => 0
  | .smem => 0
  | _ => 0

abbrev bufTy : (tb : Table) → Fin (tcTables nBuf tb) → BufTy
  | .hbm, ⟨0, _⟩ => ⟨S1024x768, .bf16⟩
  | .hbm, ⟨1, _⟩ => ⟨S768x16384, .bf16⟩
  | .hbm, ⟨2, _⟩ => ⟨S2x512x256x64, .bf16⟩
  | .hbm, ⟨3, _⟩ => ⟨S2x512x256x64, .bf16⟩
  | .hbm, ⟨4, _⟩ => ⟨S16384x768, .bf16⟩
  | .hbm, ⟨5, _⟩ => ⟨S1024x768, .f32⟩
  | .hbm, ⟨6, _⟩ => ⟨S2x512x768, .f32⟩
  | .hbm, ⟨7, _⟩ => ⟨S2x512x256x64, .f32⟩
  | .hbm, ⟨8, _⟩ => ⟨S2x512x256x64, .f32⟩
  | .hbm, ⟨9, _⟩ => ⟨S768x16384, .f32⟩
  | .hbm, ⟨10, _⟩ => ⟨S2x512x16384, .f32⟩
  | .hbm, ⟨11, _⟩ => ⟨S2x512x16384, .bf16⟩
  | .hbm, ⟨12, _⟩ => ⟨S2x512x16384, .f32⟩
  | .hbm, ⟨13, _⟩ => ⟨S2x512x256x64, .f32⟩
  | .hbm, ⟨14, _⟩ => ⟨S512, .i32⟩
  | .hbm, ⟨15, _⟩ => ⟨S512x1, .i32⟩
  | .hbm, ⟨16, _⟩ => ⟨S512, .i32⟩
  | .hbm, ⟨17, _⟩ => ⟨S1x512, .i32⟩
  | .hbm, ⟨18, _⟩ => ⟨S512x512, .i32⟩
  | .hbm, ⟨19, _⟩ => ⟨S512x512, .i32⟩
  | .hbm, ⟨20, _⟩ => ⟨S512x512, .i32⟩
  | .hbm, ⟨21, _⟩ => ⟨S512x512, .i32⟩
  | .hbm, ⟨22, _⟩ => ⟨S_, .i32⟩
  | .hbm, ⟨23, _⟩ => ⟨S512x512, .i32⟩
  | .hbm, ⟨24, _⟩ => ⟨S512x512, .i1⟩
  | .hbm, ⟨25, _⟩ => ⟨S_, .i32⟩
  | .hbm, ⟨26, _⟩ => ⟨S1x512, .i32⟩
  | .hbm, ⟨27, _⟩ => ⟨S1x512, .i1⟩
  | .hbm, ⟨28, _⟩ => ⟨S_, .i32⟩
  | .hbm, ⟨29, _⟩ => ⟨S512x1, .i32⟩
  | .hbm, ⟨30, _⟩ => ⟨S512x1, .i1⟩
  | .hbm, ⟨31, _⟩ => ⟨S512x512, .i1⟩
  | .hbm, ⟨32, _⟩ => ⟨S512x512, .i1⟩
  | .hbm, ⟨33, _⟩ => ⟨S512x512, .i1⟩
  | .hbm, ⟨34, _⟩ => ⟨S512x512, .i1⟩
  | .hbm, ⟨35, _⟩ => ⟨S2x256x512x512, .f32⟩
  | .hbm, ⟨36, _⟩ => ⟨S2x256x512x512, .bf16⟩
  | .hbm, ⟨37, _⟩ => ⟨S2x256x512x512, .f32⟩
  | .hbm, ⟨38, _⟩ => ⟨S_, .f32⟩
  | .hbm, ⟨39, _⟩ => ⟨S2x256x512x512, .f32⟩
  | .hbm, ⟨40, _⟩ => ⟨S2x256x512x512, .f32⟩
  | .hbm, ⟨41, _⟩ => ⟨S1x1x512x512, .i1⟩
  | .hbm, ⟨42, _⟩ => ⟨S_, .f32⟩
  | .hbm, ⟨43, _⟩ => ⟨S_, .f32⟩
  | .hbm, ⟨44, _⟩ => ⟨S2x256x512x512, .i1⟩
  | .hbm, ⟨45, _⟩ => ⟨S2x256x512x512, .f32⟩
  | .hbm, ⟨46, _⟩ => ⟨S2x256x512x512, .f32⟩
  | .hbm, ⟨47, _⟩ => ⟨S_, .f32⟩
  | .hbm, ⟨48, _⟩ => ⟨S2x256x512, .f32⟩
  | .hbm, ⟨49, _⟩ => ⟨S2x256x512x1, .f32⟩
  | .hbm, ⟨50, _⟩ => ⟨S2x256x512x512, .f32⟩
  | .hbm, ⟨51, _⟩ => ⟨S2x256x512x512, .f32⟩
  | .hbm, ⟨52, _⟩ => ⟨S2x256x512x512, .f32⟩
  | .hbm, ⟨53, _⟩ => ⟨S_, .i1⟩
  | .hbm, ⟨54, _⟩ => ⟨S512, .i1⟩
  | .hbm, ⟨55, _⟩ => ⟨S1x1x512x1, .i1⟩
  | .hbm, ⟨56, _⟩ => ⟨S_, .f32⟩
  | .hbm, ⟨57, _⟩ => ⟨S2x256x512, .f32⟩
  | .hbm, ⟨58, _⟩ => ⟨S2x256x512x1, .f32⟩
  | .hbm, ⟨59, _⟩ => ⟨S_, .f32⟩
  | .hbm, ⟨60, _⟩ => ⟨S_, .f32⟩
  | .hbm, ⟨61, _⟩ => ⟨S2x256x512x1, .i1⟩
  | .hbm, ⟨62, _⟩ => ⟨S2x256x512x1, .f32⟩
  | .hbm, ⟨63, _⟩ => ⟨S2x256x512x1, .f32⟩
  | .hbm, ⟨64, _⟩ => ⟨S2x256x512x512, .f32⟩
  | .hbm, ⟨65, _⟩ => ⟨S2x256x512x512, .f32⟩
  | .hbm, ⟨66, _⟩ => ⟨S1x1x512x1, .i1⟩
  | .hbm, ⟨67, _⟩ => ⟨S_, .f32⟩
  | .hbm, ⟨68, _⟩ => ⟨S_, .f32⟩
  | .hbm, ⟨69, _⟩ => ⟨S2x256x512x512, .i1⟩
  | .hbm, ⟨70, _⟩ => ⟨S2x256x512x512, .f32⟩
  | .hbm, ⟨71, _⟩ => ⟨S2x256x512x512, .f32⟩
  | .hbm, ⟨72, _⟩ => ⟨S2x256x64x512, .f32⟩
  | .hbm, ⟨73, _⟩ => ⟨S2x512x256x64, .f32⟩
  | .hbm, ⟨74, _⟩ => ⟨S2x512x16384, .f32⟩
  | .hbm, ⟨75, _⟩ => ⟨S16384x768, .f32⟩
  | .hbm, ⟨76, _⟩ => ⟨S2x512x768, .f32⟩
  | .hbm, ⟨77, _⟩ => ⟨S2x512x768, .bf16⟩
  | .hbm, ⟨78, _⟩ => ⟨S1024x768, .bf16⟩
  | _, _ => ⟨S1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]
-- ==== Proof.KernelIdeal.Vals.lean ====
/-
# The arrays of the two-phase attention kernel

What a device computes from its own blocks and from what the other devices send it, as functions of the
blocks: one head of one batch (`head`), a batch's sum over the device's eight heads (`batch`), the device's
partial output (`part`), the 32 rows of it meant for one device (`chunk`), and the sum of the 32 devices'
rows (`redOf`). Nothing here is about memory: the kernel's run names these arrays, and the value claim
computes them at the extended reals.
-/
module

public import proofs.«01_k».proof.Proof.Gen.KernelIdeal
public import proofs.«01_k».proof.Proof.Gen.KernelIdeal.Skeleton
public import Idealize.ShloMosaic.Lib.ValueIdxCore

@[expose] public section

set_option maxRecDepth 16384

noncomputable section

namespace Cert.KernelIdeal.Attn

open Cert.KernelIdeal Cert.KernelIdeal.Gen
open Idealize.ShloMosaic Idealize.ShloMosaic.TcCoe Idealize.ShloMosaic.ValueIdx

variable {F : FTy → Type} [FloatOps F]

/-- One device's five blocks. -/
structure Blocks (F : FTy → Type) [FloatOps F] where
  x : Vec F S1024x768 .bf16
  wq : Vec F S768x512 .bf16
  k : Vec F S2x512x8x64 .bf16
  v : Vec F S2x512x8x64 .bf16
  wo : Vec F S512x768 .bf16

theorem kv_inb (b : Fin 2) (h : Fin 8) : ∀ a, (![b.val, 0, h.val, 0] : Fin 4 → ℕ) a + S1x512x1x64.size a ≤ S2x512x8x64.size a := by
  revert b h; decide
theorem wo_inb (h : Fin 8) : ∀ a, (![64 * h.val, 0] : Fin 2 → ℕ) a + S64x768.size a ≤ S512x768.size a := by
  revert h; decide
theorem q_slices (b : Fin 2) (h : Fin 8) : S1024x512.Slices ![512 * b.val, 64 * h.val] S512x64 := by
  revert b h; decide

/-- The keys (or values) of one batch and head. -/
def kvAt (k : Vec F S2x512x8x64 .bf16) (b : Fin 2) (h : Fin 8) : Vec F S1x512x1x64 .bf16 :=
  fun j => k ((Rect.unit (s := S2x512x8x64) ![b.val, 0, h.val, 0] S1x512x1x64.size (kv_inb b h)).emb j)
/-- The rows of the output projection that one head reads. -/
def woAt (w : Vec F S512x768 .bf16) (h : Fin 8) : Vec F S64x768 .bf16 :=
  fun j => w ((Rect.unit (s := S512x768) ![64 * h.val, 0] S64x768.size (wo_inb h)).emb j)
/-- The queries of one batch and head. -/
def qAt (q : FVec F S1024x512 .bf16) (b : Fin 2) (h : Fin 8) : FVec F S512x64 .bf16 :=
  extractStridedSlice S512x64 ![512 * b.val, 64 * h.val] q (q_slices b h)

/-- The exponentials of one head's masked and scaled scores. -/
def weights (mask : IVec S512x512 1) (q : FVec F S512x64 .bf16) (k : Vec F S1x512x1x64 .bf16) : FVec F S512x512 .bf16 :=
  truncf .bf16 (exp (select mask
    (mulf (matmul dot_S512x64_S512x64_S512x512_1_1_0_0_n_n none q (shapeCast S512x64 k shapeCasts_S1x512x1x64_S512x64)
        (constant S512x512 .f32 0x00000000#32))
      (broadcast S512x512 (Scalar.ofBits .f32 0x3E000000#32)))
    (broadcast S512x512 (Scalar.ofBits .f32 0xCE6E6B28#32)))) bitsLt_bf16_f32

/-- The sum of a row's weights, for every row. -/
def rowSum (p : FVec F S512x512 .bf16) : FVec F S512x1 .f32 :=
  shapeCast S512x1 (multiReduction .add [1] S512 (extf .f32 p bitsLt_bf16_f32) 0x00000000#32 reduces_S512x512_S512 (.inl rfl) rfl) shapeCasts_S512_S512x1

/-- One head's contribution to the output: its weighted values over the row sums, through its rows of the
    output projection. -/
def headOut (p : FVec F S512x512 .bf16) (v : Vec F S1x512x1x64 .bf16) (w : Vec F S64x768 .bf16) : FVec F S512x768 .f32 :=
  matmul dot_S512x64_S64x768_S512x768_1_0_0_1_n_n none
    (truncf .bf16 (divf
      (matmul dot_S512x512_S512x64_S512x64_1_0_0_1_n_n none p (shapeCast S512x64 v shapeCasts_S1x512x1x64_S512x64) (constant S512x64 .f32 0x00000000#32))
      (broadcastTo S512x64 (rowSum p) broadcasts_S512x1_S512x64)) bitsLt_bf16_f32)
    (shapeCast S64x768 w shapeCasts_S64x768_S64x768) (constant S512x768 .f32 0x00000000#32)

/-- The device's queries. -/
def query (B : Blocks F) : FVec F S1024x512 .bf16 := k0_pay2 (k0_pay1 B.x) B.wq

/-- One head of one batch. -/
def head (B : Blocks F) (b : Fin 2) (h : Fin 8) : FVec F S512x768 .f32 :=
  headOut (weights k0_pay3 (qAt (query B) b h) (kvAt B.k b h)) (kvAt B.v b h) (woAt B.wo h)

/-- A batch's sum over the device's eight heads. -/
def batch (B : Blocks F) (b : Fin 2) : FVec F S512x768 .bf16 :=
  truncf .bf16 (addf (addf (addf (addf (addf (addf (addf (addf (broadcast S512x768 (Scalar.ofBits .f32 0x00000000#32))
    (head B b 0)) (head B b 1)) (head B b 2)) (head B b 3)) (head B b 4)) (head B b 5)) (head B b 6)) (head B b 7)) bitsLt_bf16_f32

/-- What the kernel stores for the first batch, in its own grouping of the operations. -/
theorem store_lo (B : Blocks F) :
    k0_pay16 k0_pay3
      (k0_pay14 (query B) k0_pay3
        (k0_pay11 k0_pay3
          (k0_pay9 (query B) k0_pay3
            (k0_pay6 (query B) k0_pay3 k0_pay4 (k0_pay5 (k0_pay1 B.x) B.wq (kvAt B.k 0 0) (kvAt B.v 0 0) (woAt B.wo 0))
              (kvAt B.k 0 1) (kvAt B.v 0 1) (woAt B.wo 1))
            (k0_pay7 (query B) k0_pay3 (kvAt B.k 0 2)) (k0_pay8 (query B) k0_pay3 (kvAt B.k 0 2))
            (kvAt B.v 0 2) (woAt B.wo 2) (kvAt B.k 0 3) (kvAt B.v 0 3) (woAt B.wo 3))
          (k0_pay10 (query B)) (kvAt B.k 0 4) (kvAt B.v 0 4) (woAt B.wo 4))
        (k0_pay12 (query B) k0_pay3 (kvAt B.k 0 5)) (k0_pay13 (query B) k0_pay3 (kvAt B.k 0 5))
        (kvAt B.v 0 5) (woAt B.wo 5) (kvAt B.k 0 6) (kvAt B.v 0 6) (woAt B.wo 6))
      (k0_pay15 (query B)) (kvAt B.k 0 7) (kvAt B.v 0 7) (woAt B.wo 7)
    = shapeCast S512x768 (batch B 0) shapeCasts_S512x768_S512x768 := rfl

/-- What the kernel stores for the second batch, in its own grouping of the operations. -/
theorem store_hi (B : Blocks F) :
    k0_pay30 (k0_pay29 (query B) k0_pay3
      (k0_pay26 k0_pay3
        (k0_pay24 (query B) k0_pay3
          (k0_pay21 (query B) k0_pay3
            (k0_pay19 k0_pay17 (k0_pay18 (query B) k0_pay3 (kvAt B.k 1 0)) (kvAt B.v 1 0) (woAt B.wo 0))
            (k0_pay20 (query B) k0_pay3 (kvAt B.k 1 1) (kvAt B.v 1 1) (woAt B.wo 1))
            (kvAt B.k 1 2) (kvAt B.v 1 2) (woAt B.wo 2))
          (k0_pay22 (query B) k0_pay3 (kvAt B.k 1 3)) (k0_pay23 (query B) k0_pay3 (kvAt B.k 1 3))
          (kvAt B.v 1 3) (woAt B.wo 3) (kvAt B.k 1 4) (kvAt B.v 1 4) (woAt B.wo 4))
        (k0_pay25 (query B)) (kvAt B.k 1 5) (kvAt B.v 1 5) (woAt B.wo 5))
      (k0_pay27 (query B) k0_pay3 (kvAt B.k 1 6)) (k0_pay28 (query B) k0_pay3 (kvAt B.k 1 6))
      (kvAt B.v 1 6) (woAt B.wo 6) (kvAt B.k 1 7) (kvAt B.v 1 7) (woAt B.wo 7))
    = shapeCast S512x768 (batch B 1) shapeCasts_S512x768_S512x768 := rfl

/-! ## The reduced rows -/

/-- The partial output: the first batch's rows, then the second's. -/
def part (B : Blocks F) : Vec F S1024x768 .bf16 := fun i =>
  if h : (i 0).val < 512 then batch B 0 (ix2 ⟨(i 0).val, h⟩ (i 1))
  else batch B 1 (ix2 ⟨(i 0).val - 512, by have : (i 0).val < 1024 := (i 0).isLt; omega⟩ (i 1))

theorem rows_inb (d : Dev nD) : ∀ a, (![32 * d.val, 0] : Fin 2 → ℕ) a + S32x768.size a ≤ S1024x768.size a := by
  revert d; decide
/-- The 32 rows that belong to device `d`. -/
abbrev rowsR (d : Dev nD) : Rect S1024x768 := Rect.unit (s := S1024x768) ![32 * d.val, 0] S32x768.size (rows_inb d)

/-- The rows of the partial output meant for device `d`. -/
def chunk (B : Blocks F) (d : Dev nD) : Vec F S32x768 .bf16 := fun j => part B ((rowsR d).emb j)

/-- Rows as the receive buffer holds them, with a leading axis of one. -/
def lift (X : Vec F S32x768 .bf16) : Vec F S1x32x768 .bf16 := fun i => X ((Shape.reshapeEquiv (squeezes_S1x32x768_S32x768).numel_eq).symm i)

/-- The running sum after `n` received blocks. -/
def redAcc (own : Vec F S32x768 .bf16) (V : ℕ → Vec F S1x32x768 .bf16) : ℕ → FVec F S32x768 .f32
  | 0 => extf .f32 own bitsLt_bf16_f32
  | n + 1 => addf (redAcc own V n) (extf .f32 (shapeCast S32x768 (V n) shapeCasts_S1x32x768_S32x768) bitsLt_bf16_f32)

/-- A device's reduced rows: its own rows and 31 received blocks, rounded once. -/
def redOf (own : Vec F S32x768 .bf16) (V : ℕ → Vec F S1x32x768 .bf16) : Vec F S32x768 .bf16 :=
  truncf .bf16 (redAcc own V 31) bitsLt_bf16_f32

/-- What the kernel stores as its reduced rows, in its own grouping of the operations. -/
theorem store_red (own : Vec F S32x768 .bf16) (V : ℕ → Vec F S1x32x768 .bf16) :
    k0_pay45 (k0_pay44 (k0_pay43 (k0_pay41 (k0_pay40 (k0_pay39 (k0_pay38 (k0_pay37 (k0_pay35 (k0_pay34 (k0_pay33 (k0_pay32 (k0_pay31 own (V 0))
        (V 1) (V 2) (V 3)) (V 4) (V 5)) (V 6) (V 7) (V 8)) (V 9) (V 10)) (k0_pay36 (V 11)) (V 12) (V 13)) (V 14) (V 15) (V 16)) (V 17) (V 18))
        (V 19) (V 20) (V 21)) (V 22) (V 23)) (k0_pay42 (V 24)) (V 25) (V 26)) (V 27) (V 28) (V 29)) (V 30)
    = redOf own V := rfl

end Cert.KernelIdeal.Attn

end
-- ==== Proof.KernelIdeal.Sched.lean ====
/-
# The protocol of the two-phase attention kernel

Each device signals the 31 others on the barrier semaphore, handing each of them the receive slot and the
output rows that it will write; it then sends each of them its rows of the partial output (first phase), and
later its own reduced rows (second phase). A cell of a device is its barrier semaphore or one of its 4 × 31
transfer semaphores (send and receive of either phase, one for each offset); each is used for one round.
-/
module

public import proofs.«01_k».proof.Proof.KernelIdeal.Vals
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Memref
public import Idealize.ShloMosaic.Lib.Tactic

@[expose] public section

set_option maxRecDepth 16384

noncomputable section

namespace Cert.KernelIdeal.Attn

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

/-- An offset: `j` stands for the device `j + 1` further on. -/
abbrev J : Type := Fin 31

abbrev UU : Type := UR sig nD τ × URounds (GSem nD τ sig) J

local notation "𝕄" => MT nD τ sig Unit (Elt F) ℕ UU ℕ

abbrev EP : Emb (UR sig nD τ) (MT nD τ sig Unit (Elt F) ℕ UU ℕ) := embL
abbrev ER : Emb (URounds (GSem nD τ sig) J) (MT nD τ sig Unit (Elt F) ℕ UU ℕ) := embR

variable (m : (ℓ : Loc nD τ sig) → Buf (Elt F) ℓ)

/-! ## The other devices -/

/-- The device `j + 1` further on, -/
def nxt (c : Dev nD) (j : J) : Dev nD := ⟨(c.val + j.val + 1) % 32, Nat.mod_lt _ (by decide)⟩
/-- and the device `j + 1` back. -/
def prv (c : Dev nD) (j : J) : Dev nD := ⟨(c.val + 31 - j.val) % 32, Nat.mod_lt _ (by decide)⟩
/-- The offset that leads back. -/
def rev (j : J) : J := ⟨30 - j.val, by omega⟩

theorem nxt_prv (c : Dev nD) (j : J) : nxt (prv c j) j = c := by
  have hc : c.val < 32 := c.isLt; have := j.isLt; ext; simp only [nxt, prv]; omega
theorem prv_nxt (c : Dev nD) (j : J) : prv (nxt c j) j = c := by
  have hc : c.val < 32 := c.isLt; have := j.isLt; ext; simp only [nxt, prv]; omega
theorem rev_rev (j : J) : rev (rev j) = j := by have := j.isLt; ext; simp only [rev]; omega
theorem nxt_rev (c : Dev nD) (j : J) : nxt c (rev j) = prv c j := by
  have hc : c.val < 32 := c.isLt; have := j.isLt; ext; simp only [nxt, prv, rev]; omega
theorem nxt_nxt_rev (c : Dev nD) (j : J) : nxt (nxt c j) (rev j) = c := by rw [nxt_rev, prv_nxt]

/-- Going `j + 1` on, as a permutation of the devices. -/
def shift (j : J) : Dev nD ≃ Dev nD := ⟨fun c => nxt c j, fun c => prv c j, fun c => prv_nxt c j, fun c => nxt_prv c j⟩

/-! ## Semaphores and cells -/

/-- The barrier semaphore. -/
abbrev barS : Sem sig := sig.barrier 0 rfl
/-- The transfer semaphore of kind `a` (0 first-phase send, 1 first-phase receive, 2 second-phase send, 3
    second-phase receive) and offset `j`. -/
def dsem (a : Fin 4) (j : J) : DmaSem sig := ⟨7 + 32 * a.val + j.val, by have := a.isLt; have := j.isLt; show _ < 134; omega⟩

abbrev osem : Option (Fin 4 × J) → SemLoc sig
  | none => .reg barS
  | some (a, j) => .dma (dsem a j)
abbrev kcell (ck : Dev nD × Option (Fin 4 × J)) : GSem nD τ sig := ((ck.1 : Thread nD τ), osem ck.2)
abbrev barC (c : Dev nD) : GSem nD τ sig := ((c : Thread nD τ), .reg barS)
abbrev dC (a : Fin 4) (c : Dev nD) (j : J) : GSem nD τ sig := ((c : Thread nD τ), .dma (dsem a j))

/-- Which kind and offset a transfer semaphore is of. -/
def dec (s : DmaSem sig) : Option (Fin 4 × J) :=
  if h : 7 ≤ s.val ∧ (s.val - 7) % 32 < 31 then
    some (⟨(s.val - 7) / 32, by have : s.val < 134 := s.isLt; omega⟩, ⟨(s.val - 7) % 32, h.2⟩)
  else none

theorem dec_dsem (a : Fin 4) (j : J) : dec (dsem a j) = some (a, j) := by
  have ha := a.isLt; have hj := j.isLt
  unfold dec dsem
  rw [dif_pos ⟨by simp only; omega, by simp only; omega⟩]
  congr 1; ext <;> simp only <;> omega

theorem dsem_inj {a a' : Fin 4} {j j' : J} (h : dsem a j = dsem a' j') : a = a' ∧ j = j' := by
  have := congrArg dec h; rw [dec_dsem, dec_dsem] at this
  exact Prod.mk.injEq .. ▸ Option.some.inj this

/-! ## The memrefs -/

abbrev partM : Memref sig .tc .vmem S1024x768 .bf16 := Memref.whole cc0_scratch0
abbrev rsM : Memref sig .tc .vmem S32x32x768 .bf16 := Memref.whole cc0_scratch1
abbrev outM : Memref sig .tc .vmem S1024x768 .bf16 := Memref.whole cc0_stg5_0

/-- Device `d`'s rows of a [1024, 768] buffer. -/
abbrev rowsM (M : Memref sig .tc .vmem S1024x768 .bf16) (d : Dev nD) : Memref sig .tc .vmem S32x768 .bf16 :=
  M.slice (rowsR d) (fun _ => rfl)

theorem slot_inb (k : Fin 32) : ∀ a, (![k.val, 0, 0] : Fin 3 → ℕ) a + S1x32x768.size a ≤ S32x32x768.size a := by
  revert k; decide
abbrev slotR (k : Fin 32) : Rect S32x32x768 := Rect.unit (s := S32x32x768) ![k.val, 0, 0] S1x32x768.size (slot_inb k)
/-- Slot `k` of the receive buffer, -/
abbrev slot3 (k : Fin 32) : Memref sig .tc .vmem S1x32x768 .bf16 := rsM.slice (slotR k) (fun _ => rfl)
/-- and the slot of offset `j` as a transfer writes it. -/
abbrev slotM (j : J) : Memref sig .tc .vmem S32x768 .bf16 :=
  (slot3 j.succ).squeeze S32x768 squeezes_S1x32x768_S32x768

/-- What a transfer of 32 rows credits. -/
def N : ℕ := (rowsM partM 0).view.dmaCredit
theorem N_pos : 0 < N := View.dmaCredit_pos _ (by decide)

/-! ## Contents -/

/-- Device `c`'s five blocks, as launched. -/
def blks (c : Dev nD) : Blocks F where
  x := m ((c : Thread nD τ).loc main_arg0)
  wq := m ((c : Thread nD τ).loc main_arg1)
  k := m ((c : Thread nD τ).loc main_arg2)
  v := m ((c : Thread nD τ).loc main_arg3)
  wo := m ((c : Thread nD τ).loc main_arg4)

/-- The rows that device `c` computes for device `d`. -/
def ch (c d : Dev nD) : Vec F S32x768 .bf16 := chunk (blks m c) d
/-- The `n`-th received block of device `c`. -/
def got (c : Dev nD) (n : ℕ) : Vec F S1x32x768 .bf16 := lift (ch m (prv c ⟨n % 31, Nat.mod_lt _ (by decide)⟩) c)
/-- Device `c`'s reduced rows. -/
def red (c : Dev nD) : Vec F S32x768 .bf16 := redOf (ch m c c) (got m c)
/-- The whole result: every device's reduced rows. -/
def full : Vec F S1024x768 .bf16 := fun i =>
  red m ⟨(i 0).val / 32, by have : (i 0).val < 1024 := (i 0).isLt; show _ < 32; omega⟩
    (ix2 ⟨(i 0).val % 32, Nat.mod_lt _ (by decide)⟩ (i 1))

/-! ## The schedule -/

/-- A memref owned whole at some contents. -/
def ownsE (c : Dev nD) {s : Shape} (M : Memref sig .tc .vmem s .bf16) : sProp 𝕄 := iprop(∃ X, owns (c : Thread nD τ) M fullShare X)

instance ownsE_storable (c : Dev nD) {s : Shape} (M : Memref sig .tc .vmem s .bf16) : BI.Storable (upEmb : UEmb _ 𝕄) (ownsE (F := F) c M) := by
  unfold ownsE; infer_instance

/-- What device `nxt c j`'s signal hands device `c`: its slot for `c`'s first transfer and its rows for the second. -/
def barPay (c : Dev nD) (j : J) : sProp 𝕄 := iprop(ownsE (nxt c j) (slotM j) ∗ ownsE (nxt c j) (rowsM outM c))

/-- What a transfer's end hands device `c`. -/
def dmaPay (c : Dev nD) : Fin 4 × J → sProp 𝕄
  | (0, j) => owns (c : Thread nD τ) (rowsM partM (nxt c j)) fullShare (ch m c (nxt c j))
  | (1, j) => owns (c : Thread nD τ) (slotM j) fullShare (ch m (prv c j) c)
  | (2, j) => owns (c : Thread nD τ) (rowsM outM c) (leaf 5 fullShare j.castSucc) (red m c)
  | (3, j) => owns (c : Thread nD τ) (rowsM outM (prv c j)) fullShare (red m (prv c j))

instance barPay_storable (c : Dev nD) (j : J) : BI.Storable (upEmb : UEmb _ 𝕄) (barPay (F := F) c j) := by unfold barPay; infer_instance
instance dmaPay_storable (c : Dev nD) (p : Fin 4 × J) : BI.Storable (upEmb : UEmb _ 𝕄) (dmaPay m c p) := by
  obtain ⟨a, j⟩ := p; fin_cases a <;> (dsimp only [dmaPay]; infer_instance)

def cellDuties : SemLoc sig → Finset J
  | .reg s => if s = barS then Finset.univ else ∅
  | .dma s => if (dec s).isSome then {0} else ∅
def cellPay (c : Dev nD) (j : J) : SemLoc sig → sProp 𝕄
  | .reg _ => barPay c j
  | .dma s => match dec s with
    | some p => dmaPay m c p
    | none => iprop(emp)
def cellAmount : SemLoc sig → ℕ
  | .reg _ => 1
  | .dma _ => N

instance cellPay_storable (c : Dev nD) (j : J) (s : SemLoc sig) : BI.Storable (upEmb : UEmb _ 𝕄) (cellPay m c j s) := by
  cases s with
  | reg s => dsimp only [cellPay]; infer_instance
  | dma s => dsimp only [cellPay]; split <;> infer_instance

def Rd : Rounds.Schedule (GSem nD τ sig) J 𝕄 where
  duties g r := if r = 0 ∧ g.1.2 = .tc then cellDuties g.2 else ∅
  unitless _ := False
  amount g _ _ := cellAmount g.2
  payload g _ j := cellPay m g.1.1 j g.2
  amount_pos g _ _ _ := by
    cases g.2 with
    | reg _ => exact Nat.one_pos
    | dma _ => exact N_pos

instance Rd_payload_storable (g : GSem nD τ sig) (r : ℕ) (j : J) : BI.Storable (upEmb : UEmb _ 𝕄) ((Rd m).payload g r j) :=
  cellPay_storable m g.1.1 j g.2

section Sched
variable (c : Dev nD) (a : Fin 4) (j j' : J)

omit [FloatOps F] in
theorem duties_bar [FloatOps F] : (Rd m).duties (barC c) 0 = Finset.univ := by
  dsimp only [Rd]; rw [if_pos ⟨rfl, rfl⟩]; dsimp only [cellDuties]; exact if_pos rfl
theorem duties_dma : (Rd m).duties (dC a c j) 0 = {0} := by
  dsimp only [Rd]; rw [if_pos ⟨rfl, rfl⟩]; dsimp only [cellDuties]; rw [dec_dsem]; rfl
theorem duties_later (g : GSem nD τ sig) : ∀ r, 1 ≤ r → (Rd m).duties g r = ∅ :=
  fun r hr => by dsimp only [Rd]; exact if_neg fun h => by omega
theorem amount_bar : (Rd m).amount (barC c) 0 j = 1 := rfl
theorem amount_dma : (Rd m).amount (dC a c j) 0 j' = N := rfl
theorem expect_bar : (Rd m).expect (barC c) 0 = 31 := by
  unfold Schedule.expect Schedule.amountOf
  rw [duties_bar, Finset.sum_congr rfl fun j _ => amount_bar m c j, Finset.sum_const, Finset.card_univ, Fintype.card_fin, smul_eq_mul, mul_one]
theorem expect_dma : (Rd m).expect (dC a c j) 0 = N := by
  unfold Schedule.expect Schedule.amountOf; rw [duties_dma, Finset.sum_singleton, amount_dma]
theorem payload_bar : (Rd m).payload (barC c) 0 j = barPay c j := rfl
theorem payload_dma : (Rd m).payload (dC a c j) 0 j' = dmaPay m c (a, j) := by
  dsimp only [Rd, cellPay]; rw [dec_dsem]
theorem rest_bar : bigSep ((Rd m).duties (barC c) 0 \ ∅) (fun u => (Rd m).payload (barC c) 0 u) = bigSep Finset.univ fun j => barPay (F := F) c j := by
  rw [Finset.sdiff_empty, duties_bar]; rfl
theorem rest_dma : bigSep ((Rd m).duties (dC a c j) 0 \ ∅) (fun u => (Rd m).payload (dC a c j) 0 u) = dmaPay m c (a, j) := by
  rw [Finset.sdiff_empty, duties_dma, bigSep_singleton, payload_dma]
end Sched

/-! ## What each device owes at launch; the levels -/

/-- From offset `n` on, the units device `c` still owes the barriers, -/
def oBar (c : Dev nD) (n : ℕ) : CellTallies nD τ sig Unit := ∑ j ∈ Finset.univ.filter (fun j : J => n ≤ j.val), tallyAt (barC (nxt c j)) () 1
/-- and the transfer credit it still owes the receivers of kind `a`. -/
def oDma (a : Fin 4) (c : Dev nD) (n : ℕ) : CellTallies nD τ sig Unit := ∑ j ∈ Finset.univ.filter (fun j : J => n ≤ j.val), tallyAt (dC a (nxt c j) j) () N

def O₀ (c : Dev nD) : CellTallies nD τ sig Unit := (oDma 3 c 0 + oDma 1 c 0) + oBar c 0

theorem filter_step (n : ℕ) (hn : n < 31) :
    Finset.univ.filter (fun j : J => n ≤ j.val) = insert ⟨n, hn⟩ (Finset.univ.filter (fun j : J => n + 1 ≤ j.val)) := by
  ext j; simp only [Finset.mem_filter, Finset.mem_univ, true_and, Finset.mem_insert, Fin.ext_iff]; omega
theorem not_mem_step (n : ℕ) (hn : n < 31) : (⟨n, hn⟩ : J) ∉ Finset.univ.filter (fun j : J => n + 1 ≤ j.val) := by
  simp
theorem filter_end (n : ℕ) (hn : 31 ≤ n) : Finset.univ.filter (fun j : J => n ≤ j.val) = ∅ := by
  ext j; have := j.isLt; simp only [Finset.mem_filter, Finset.mem_univ, true_and, Finset.notMem_empty, iff_false]; omega
theorem filter_zero : Finset.univ.filter (fun j : J => 0 ≤ j.val) = Finset.univ := by
  ext j; simp

theorem oBar_step (c : Dev nD) (n : ℕ) (hn : n < 31) : oBar c n = oBar c (n + 1) + tallyAt (barC (nxt c ⟨n, hn⟩)) () 1 := by
  unfold oBar; rw [filter_step n hn, Finset.sum_insert (not_mem_step n hn), add_comm]
theorem oDma_step (a : Fin 4) (c : Dev nD) (n : ℕ) (hn : n < 31) :
    oDma a c n = oDma a c (n + 1) + tallyAt (dC a (nxt c ⟨n, hn⟩) ⟨n, hn⟩) () N := by
  unfold oDma; rw [filter_step n hn, Finset.sum_insert (not_mem_step n hn), add_comm]
theorem oBar_end (c : Dev nD) : oBar c 31 = 0 := by unfold oBar; rw [filter_end 31 le_rfl, Finset.sum_empty]
theorem oDma_end (a : Fin 4) (c : Dev nD) : oDma a c 31 = 0 := by unfold oDma; rw [filter_end 31 le_rfl, Finset.sum_empty]

def L (g : GSem nD τ sig) : Finset Unit := if g.1.2 = .tc then {()} else ∅
def lvS : SemLoc sig → ℕ
  | .reg _ => 1
  | .dma s => match dec s with
    | some (1, _) => 2
    | some (3, _) => 3
    | _ => 0
def lv (g : GSem nD τ sig) (_ : Unit) : ℕ := lvS g.2
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := rfl
theorem lv_recv1 (c : Dev nD) (j : J) : lv (dC 1 c j) () = 2 := by unfold lv lvS; simp only [dec_dsem]
theorem lv_recv2 (c : Dev nD) (j : J) : lv (dC 3 c j) () = 3 := by unfold lv lvS; simp only [dec_dsem]

theorem sum_tally_pos {S : Finset J} {f : J → GSem nD τ sig} {k : ℕ} {g : GSem nD τ sig} {u : Unit}
    (h : 0 < (∑ j ∈ S, tallyAt (f j) () k : CellTallies nD τ sig Unit) g u) : ∃ j ∈ S, g = f j := by
  induction S using Finset.induction_on with
  | empty => exact absurd h (Nat.lt_irrefl 0)
  | insert j S hj ih =>
    rw [Finset.sum_insert hj, Pi.add_apply, Finsupp.add_apply, tallyAt_apply] at h
    by_cases hg : g = f j ∧ u = ()
    · exact ⟨j, Finset.mem_insert_self _ _, hg.1⟩
    · rw [if_neg hg, zero_add] at h
      obtain ⟨j', hj', e⟩ := ih h
      exact ⟨j', Finset.mem_insert_of_mem hj', e⟩

theorem oBar_pos {c : Dev nD} {n : ℕ} {g : GSem nD τ sig} {u : Unit} (h : 0 < oBar c n g u) : ∃ d, g = barC d :=
  let ⟨j, _, e⟩ := sum_tally_pos h; ⟨nxt c j, e⟩
theorem oDma_pos {a : Fin 4} {c : Dev nD} {n : ℕ} {g : GSem nD τ sig} {u : Unit} (h : 0 < oDma a c n g u) : ∃ d j, g = dC a d j :=
  let ⟨j, _, e⟩ := sum_tally_pos h; ⟨nxt c j, j, e⟩

end Cert.KernelIdeal.Attn

end
-- ==== Proof.KernelIdeal.Steps.lean ====
/-
# The steps of a device's body

A phase of the body does one thing for each of the 31 offsets in turn. `St O Φ Ψ n R` is the state before the
offset `n`: the shared records, what the device owes, `Φ j` for each offset still to do, `Ψ j` for each done,
and whatever else (`R`). Each lemma here passes one operation of the body.
-/
module

public import proofs.«01_k».proof.Proof.KernelIdeal.Sched

@[expose] public section

set_option maxRecDepth 16384

noncomputable section

namespace Cert.KernelIdeal.Attn

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)
variable (K : Dev nD × Option (Fin 4 × J) → ℕ)

abbrev 𝒱₀ : Variants := Variants.none

/-- The weakest precondition of a program of device `c`. -/
def WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What every device knows of every cell: its invariant, and that its only round has begun. -/
def records : sProp 𝕄 :=
  iprop((bigSep Finset.univ fun ck : Dev nD × Option (Fin 4 × J) => cellInv ER (Rd m) (K ck) (kcell ck))
    ∗ (bigSep Finset.univ fun ck : Dev nD × Option (Fin 4 × J) => reached ER (kcell ck) 0) ∗ levAts L lv)
instance records_persistent : BI.Persistent (records m K) := by unfold records; infer_instance

theorem inv_all (ck : Dev nD × Option (Fin 4 × J)) :
    (bigSep Finset.univ fun ck : Dev nD × Option (Fin 4 × J) => (cellInv ER (Rd m) (K ck) (kcell ck) : sProp 𝕄)) ⊢ cellInv ER (Rd m) (K ck) (kcell ck) :=
  bigSep_elim (Finset.mem_univ ck)
theorem reached_all (ck : Dev nD × Option (Fin 4 × J)) :
    (bigSep Finset.univ fun ck : Dev nD × Option (Fin 4 × J) => (reached ER (kcell ck) 0 : sProp 𝕄)) ⊢ reached ER (kcell ck) 0 :=
  bigSep_elim (Finset.mem_univ ck)
theorem inv_of (ck : Dev nD × Option (Fin 4 × J)) : records m K ⊢ cellInv ER (Rd m) (K ck) (kcell ck) := by
  unfold records; iintro ⟨H, -, -⟩; iapply (inv_all m K ck); iexact H
theorem reached_of (ck : Dev nD × Option (Fin 4 × J)) : records m K ⊢ reached ER (kcell ck) 0 := by
  unfold records; iintro ⟨-, H, -⟩; iapply (reached_all (F := F) ck); iexact H
theorem lev_of : records m K ⊢ levAts L lv := by
  unfold records; iintro ⟨-, -, H⟩; iexact H

/-- What device `c` owes, whatever it has waited on. -/
def owesE (c : Dev nD) (O : CellTallies nD τ sig Unit) : sProp 𝕄 := iprop(∃ W, owes (c : Thread nD τ) O W)

/-- The state before offset `n` of a phase. -/
def St (c : Dev nD) (O : ℕ → CellTallies nD τ sig Unit) (Φ Ψ : J → sProp 𝕄) (n : ℕ) (R : sProp 𝕄) : sProp 𝕄 :=
  iprop(records m K ∗ owesE c (O n) ∗ (bigSep (Finset.univ.filter (fun j : J => n ≤ j.val)) Φ)
    ∗ (bigSep (Finset.univ.filter (fun j : J => j.val < n)) Ψ) ∗ R)

theorem bigSep_ins {I : Type} [DecidableEq I] {s : Finset I} {i : I} (hi : i ∉ s) {Φ : I → sProp 𝕄} :
    bigSep (insert i s) Φ = iprop(Φ i ∗ bigSep s Φ) := BI.bigSep_insert hi

theorem done_step (n : ℕ) (hn : n < 31) :
    Finset.univ.filter (fun j : J => j.val < n + 1) = insert ⟨n, hn⟩ (Finset.univ.filter (fun j : J => j.val < n)) := by
  ext j; simp only [Finset.mem_filter, Finset.mem_univ, true_and, Finset.mem_insert, Fin.ext_iff]; omega
theorem done_zero : Finset.univ.filter (fun j : J => j.val < 0) = ∅ := by ext j; simp
theorem done_end : Finset.univ.filter (fun j : J => j.val < 31) = Finset.univ := by
  ext j; have := j.isLt; simp

variable {m K}

theorem St_start {c : Dev nD} {O : ℕ → CellTallies nD τ sig Unit} {Φ Ψ : J → sProp 𝕄} {R : sProp 𝕄} :
    iprop(records m K ∗ owesE c (O 0) ∗ (bigSep Finset.univ Φ) ∗ R) ⊢ St m K c O Φ Ψ 0 R := by
  unfold St; rw [filter_zero, done_zero, bigSep_empty]
  iintro ⟨H1, H2, H3, H4⟩
  isplitl [H1]; · iexact H1
  isplitl [H2]; · iexact H2
  isplitl [H3]; · iexact H3
  isplitr; · iempintro
  iexact H4

theorem St_finish {c : Dev nD} {O : ℕ → CellTallies nD τ sig Unit} {Φ Ψ : J → sProp 𝕄} {R : sProp 𝕄} :
    St m K c O Φ Ψ 31 R ⊢ iprop(records m K ∗ owesE c (O 31) ∗ (bigSep Finset.univ Ψ) ∗ R) := by
  unfold St; rw [filter_end 31 le_rfl, done_end, bigSep_empty]
  iintro ⟨H1, H2, -, H3, H4⟩
  isplitl [H1]; · iexact H1
  isplitl [H2]; · iexact H2
  isplitl [H3]; · iexact H3
  iexact H4

/-- One offset of a phase, from what the operation does with the offset's own part. -/
theorem St_step {c : Dev nD} {O : ℕ → CellTallies nD τ sig Unit} {Φ Ψ : J → sProp 𝕄} {n : ℕ} (hn : n < 31) {R X Y : sProp 𝕄}
    (e : iprop(records m K ∗ owesE c (O n) ∗ Φ ⟨n, hn⟩) ⊢ iprop((iprop(owesE c (O (n + 1)) ∗ Ψ ⟨n, hn⟩) -∗ X) -∗ Y))
    (h : St m K c O Φ Ψ (n + 1) R ⊢ X) : St m K c O Φ Ψ n R ⊢ Y := by
  unfold St at h ⊢
  rw [done_step n hn, bigSep_ins (by simp)] at h
  rw [filter_step n hn, bigSep_ins (not_mem_step n hn)]
  iintro ⟨#HR, HO, ⟨HΦ, HΦs⟩, HΨ, HRest⟩
  iapply e $$ [HO HΦ]
  · isplitr; · iexact HR
    isplitl [HO] <;> iassumption
  iintro ⟨HO, HΨn⟩
  iapply h
  isplitr; · iexact HR
  isplitl [HO]; · iexact HO
  isplitl [HΦs]; · iexact HΦs
  isplitl [HΨn HΨ]
  · isplitl [HΨn] <;> iassumption
  iexact HRest

/-- A part of the body, from the program it stands for. -/
theorem part_step {c : Dev nD} {α β : Type} {p p' : Prog (TpuEff nD τ sig (Elt F) Λ₀ .tc) α} {k : α → Prog (TpuEff nD τ sig (Elt F) Λ₀ .tc) β}
    {Q : β → sProp 𝕄} {S : sProp 𝕄} (hp : p = p') (h : S ⊢ WP c p' (fun x => WP c (k x) Q)) : S ⊢ WP c (p >>= k) Q := by
  subst hp; unfold WP at h ⊢; rw [wp_bind]; exact h

theorem dev_step {c : Dev nD} {α : Type} {k : Dev nD → Prog (TpuEff nD τ sig (Elt F) Λ₀ .tc) α} {Q : α → sProp 𝕄} {S : sProp 𝕄}
    (h : S ⊢ WP c (k c) Q) : S ⊢ WP c (.op .deviceId k) Q := by unfold WP; rw [wp_deviceId]; exact h

theorem ret_step {c : Dev nD} {α : Type} {a : α} {Q : α → sProp 𝕄} {S : sProp 𝕄} (h : S ⊢ Q a) : S ⊢ WP c (.ret a) Q := by
  unfold WP; rw [wp_ret]; exact h.trans BI.fupd_intro

/-! ## The barrier -/

/-- For the signal of offset `j`: the token of the duty it discharges, the slot and the rows it hands over. -/
def sigPre (c : Dev nD) (j : J) : sProp 𝕄 :=
  iprop(dutyTok ER (barC (nxt c j)) 0 (rev j) ∗ ownsE c (slotM (rev j)) ∗ ownsE c (rowsM outM (nxt c j)))

def oSig (c : Dev nD) (n : ℕ) : CellTallies nD τ sig Unit := (oDma 3 c 0 + oDma 1 c 0) + oBar c n

abbrev SSig (m : (ℓ : Loc nD τ sig) → Buf (Elt F) ℓ) (K : Dev nD × Option (Fin 4 × J) → ℕ) (c : Dev nD) (n : ℕ) (R : sProp 𝕄) : sProp 𝕄 :=
  St m K c (oSig c) (sigPre c) (fun _ => iprop(emp)) n R

/-- A signal of another device's barrier. -/
theorem sig_step {c dst : Dev nD} {n : ℕ} (hn : n < 31) {α : Type} {k : PUnit → Prog (TpuEff nD τ sig (Elt F) Λ₀ .tc) α} {Q : α → sProp 𝕄} {R : sProp 𝕄}
    {sem : Sem sig} {a : ℤ} (hsem : sem = barS) (ha : a = 1) (hd : dst = nxt c ⟨n, hn⟩) (h : SSig m K c (n + 1) R ⊢ WP c (k ⟨⟩) Q) :
    SSig m K c n R ⊢ WP c (.op (.semSignal (dst, Proc.tc) sem a) k) Q := by
  subst ha hsem hd
  unfold WP at h ⊢
  refine St_step hn ?_ h
  unfold sigPre owesE
  iintro ⟨#HR, ⟨%W, HO⟩, Ht, Hs, Hr⟩ Hk
  iapply (Rounds.wp_signal 𝒱₀ ER (Rd m) (c : Thread nD τ) none (dst := (nxt c ⟨n, hn⟩ : Thread nD τ)) (κ := K (nxt c ⟨n, hn⟩, none))
      (k' := 1) (d := rev ⟨n, hn⟩) (by rw [duties_bar]; exact Finset.mem_univ _) (amount_bar m _ _) () (O₀ := oSig c n) (oSig c (n + 1))
      (by unfold oSig; rw [oBar_step c n hn]; exact (add_assoc _ _ _).symm)) $$ [HO Ht Hs Hr]
  · isplitr; · iapply (inv_of m K (nxt c ⟨n, hn⟩, none)); iexact HR
    isplitl [HO]; · iexact HO
    isplitl [Ht]; · iexact Ht
    isplitl [Hs Hr]
    · rw [payload_bar]; unfold barPay; rw [nxt_nxt_rev]
      isplitl [Hs] <;> iassumption
    · iapply (reached_of m K (nxt c ⟨n, hn⟩, none)); iexact HR
  iintro HO
  iapply Hk
  isplitl
  · iexists W; iexact HO
  iempintro

theorem mayWait_bar (c : Dev nD) : (levAts L lv : sProp 𝕄) ⊢ MayWait (c : Thread nD τ) (.reg barS) () (oDma 3 c 0 + oDma 1 c 0) :=
  MayOwe.of_cut (L := L) (lev := lv) 1 (fun p hp => by rw [Finset.mem_singleton.mp hp, L_tc]; exact Finset.mem_singleton_self _)
    (fun g u hg => by
      rw [Pi.add_apply, Finsupp.add_apply] at hg
      rcases Nat.add_pos_iff_pos_or_pos.mp hg with h | h <;> obtain ⟨d, j, rfl⟩ := oDma_pos h <;> exact Finset.mem_singleton_self _)
    (fun p hp => by rw [Finset.mem_singleton.mp hp]; exact le_of_eq (lv_bar c))
    (fun g u hg => by
      rw [Pi.add_apply, Finsupp.add_apply] at hg
      rcases Nat.add_pos_iff_pos_or_pos.mp hg with h | h <;> obtain ⟨d, j, rfl⟩ := oDma_pos h
      · rw [show lv (dC 3 d j) u = 3 from lv_recv2 d j]; decide
      · rw [show lv (dC 1 d j) u = 2 from lv_recv1 d j]; decide)

theorem mayWait_recv1 (c : Dev nD) (j : J) : (levAts L lv : sProp 𝕄) ⊢ MayWait (c : Thread nD τ) (.dma (dsem 1 j)) () (oDma 3 c 0) :=
  MayOwe.of_cut (L := L) (lev := lv) 2 (fun p hp => by rw [Finset.mem_singleton.mp hp, L_tc]; exact Finset.mem_singleton_self _)
    (fun g u hg => by obtain ⟨d, j, rfl⟩ := oDma_pos hg; exact Finset.mem_singleton_self _)
    (fun p hp => by rw [Finset.mem_singleton.mp hp]; exact le_of_eq (lv_recv1 c j))
    (fun g u hg => by obtain ⟨d, j, rfl⟩ := oDma_pos hg; rw [show lv (dC 3 d j) u = 3 from lv_recv2 d j]; decide)

/-- The wait for the 31 signals: every other device's slot and rows for this one come with it. -/
theorem bar_step {c : Dev nD} {α : Type} {k : PUnit → Prog (TpuEff nD τ sig (Elt F) Λ₀ .tc) α} {Q : α → sProp 𝕄} {R : sProp 𝕄}
    {sem : Sem sig} {a : ℤ} (hsem : sem = barS) (ha : a = 31)
    (h : iprop(records m K ∗ owesE c (oDma 3 c 0 + oDma 1 c 0) ∗ (bigSep Finset.univ fun j : J => barPay c j) ∗ semVal (barC c) 0 ∗ R) ⊢ WP c (k ⟨⟩) Q) :
    iprop(records m K ∗ owesE c (oDma 3 c 0 + oDma 1 c 0) ∗ (cred (tallyAt (barC c) () 31) ∗ atPos ER (barC c) 0 ∅ 0) ∗ R)
      ⊢ WP c (.op (.semWait sem a) k) Q := by
  subst ha hsem
  unfold WP at h ⊢
  unfold owesE at h ⊢
  iintro ⟨#HR, ⟨%W, HO⟩, ⟨Hc, Hat⟩, HRest⟩
  iapply (Rounds.wp_wait_rest_token 𝒱₀ ER (Rd m) (c : Thread nD τ) none (κ := K (c, none))
      (wpE_semWait_eq 𝒱₀ (c : Thread nD τ) none Set.univ) (Set.mem_univ _) () (O := oDma 3 c 0 + oDma 1 c 0) (W := W) (R := 0) (m := 0) (T := ∅)
      (by rw [expect_bar])) $$ [Hc HO Hat]
  · isplitr; · iapply (inv_of m K (c, none)); iexact HR
    isplitl [Hc]; · iexact Hc
    isplitl [HO]; · iexact HO
    isplitr; · iapply (mayWait_bar c); iapply (lev_of m K); iexact HR
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barC c))) $$ [Hat] with Hz
  · isplitr; · iapply (inv_of m K (c, none)); iexact HR
    iexact Hat
  iapply h
  isplitr; · iexact HR
  isplitl [HO]; · iexists _; iexact HO
  isplitl [Hp]; · iexact Hp
  isplitl [Hz] <;> iassumption

/-! ## Transfers -/

/-- Before a wait: the credit and the position of its cell. -/
def waitPre (a : Fin 4) (c : Dev nD) (j : J) : sProp 𝕄 := iprop(cred (tallyAt (dC a c j) () N) ∗ atPos ER (dC a c j) 0 ∅ 0)
/-- After it: what the transfer hands over, and the counter at zero. -/
def waitPost (m : (ℓ : Loc nD τ sig) → Buf (Elt F) ℓ) (a : Fin 4) (c : Dev nD) (j : J) : sProp 𝕄 :=
  iprop(dmaPay m c (a, j) ∗ semVal (dC a c j) 0)

abbrev SWait (m : (ℓ : Loc nD τ sig) → Buf (Elt F) ℓ) (K : Dev nD × Option (Fin 4 × J) → ℕ) (a : Fin 4) (O : CellTallies nD τ sig Unit) (c : Dev nD) (n : ℕ)
    (R : sProp 𝕄) : sProp 𝕄 :=
  St m K c (fun _ => O) (waitPre a c) (waitPost m a c) n R

/-- A wait on a transfer semaphore. -/
theorem wait_step {c : Dev nD} {n : ℕ} (hn : n < 31) {a : Fin 4} {O : CellTallies nD τ sig Unit}
    (hO : (levAts L lv : sProp 𝕄) ⊢ MayWait (c : Thread nD τ) (.dma (dsem a ⟨n, hn⟩)) () O)
    {α : Type} {k : PUnit → Prog (TpuEff nD τ sig (Elt F) Λ₀ .tc) α} {Q : α → sProp 𝕄} {R : sProp 𝕄}
    {s : DmaSem sig} {M M' : Memref sig .tc .vmem S32x768 .bf16} {hM : M.view.WordExact} {hM' : M'.view.WordExact}
    (hs : s = dsem a ⟨n, hn⟩) (hN : M'.view.dmaCredit = N) (h : SWait m K a O c (n + 1) R ⊢ WP c (k ⟨⟩) Q) :
    SWait m K a O c n R ⊢ WP c (.op (.waitDma2 s M M' hM hM') k) Q := by
  subst hs
  unfold WP at h ⊢
  have hw : ∀ Kt : PUnit → sProp 𝕄, wpE (defs₀ (F := F)) 𝒱₀ (c : Thread nD τ) none Set.univ (.waitDma2 (dsem a ⟨n, hn⟩) M M' hM hM') Kt
      = waitSpec (c : Thread nD τ) Set.univ (.dma (dsem a ⟨n, hn⟩)) N Kt := fun Kt => by
    rw [← hN]; exact wpE_waitDma2_eq 𝒱₀ (c : Thread nD τ) none Set.univ Kt
  refine St_step hn ?_ h
  unfold waitPre waitPost owesE
  iintro ⟨#HR, ⟨%W, HO⟩, Hc, Hat⟩ Hk
  iapply (Rounds.wp_wait_rest_token 𝒱₀ ER (Rd m) (c : Thread nD τ) none (κ := K (c, some (a, ⟨n, hn⟩)))
      hw (Set.mem_univ _) () (k' := N) (O := O) (W := W) (R := 0) (m := 0) (T := ∅)
      (by rw [Nat.zero_add, expect_dma])) $$ [Hc HO Hat]
  · isplitr; · iapply (inv_of m K (c, some (a, ⟨n, hn⟩))); iexact HR
    isplitl [Hc]; · iexact Hc
    isplitl [HO]; · iexact HO
    isplitr; · iapply hO; iapply (lev_of m K); iexact HR
    iexact Hat
  iintro ⟨HO, Hat, -, Hpay⟩
  ihave Hp := (Entails.of_eq (rest_dma m c a ⟨n, hn⟩)) $$ Hpay
  imod (Rounds.cell_close ER (Rd m) (Set.mem_univ (K (c, some (a, ⟨n, hn⟩)))) (fun h => h) (R := 0 + 1) (duties_later m (dC a c ⟨n, hn⟩))) $$ [Hat] with Hz
  · isplitr; · iapply (inv_of m K (c, some (a, ⟨n, hn⟩))); iexact HR
    iexact Hat
  iapply Hk
  isplitl [HO]; · iexists _; iexact HO
  isplitl [Hp] <;> iassumption

end Cert.KernelIdeal.Attn

end
-- ==== Proof.KernelIdeal.Moves.lean ====
/-
# Transfers, loads and stores

The remaining steps of a device's body: the transfers of the two phases, loads from and stores into a memref
owned at given contents, and the splitting of a memref owned at a share into its leaves.
-/
module

public import proofs.«01_k».proof.Proof.KernelIdeal.Steps

@[expose] public section

set_option maxRecDepth 16384

noncomputable section

namespace Cert.KernelIdeal.Attn

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable {m : (ℓ : Loc nD τ sig) → Buf (Elt F) ℓ}
variable {K : Dev nD × Option (Fin 4 × J) → ℕ}

/-- A memref's buffer just written is the memref owned at what was written. -/
theorem owns_written (c : Dev nD) {sp : Space} {sh : Shape} {e : EltTy} (M : Memref sig .tc sp sh e) (q : PosShare TreeShare)
    (g : M.view.ty.Contents (Elt F)) (X : sh.Idx → Elt F e) :
    (M.view.loc (c : Thread nD τ) ↦[M.view.set]{q} (M.view.write (Elt F) g X Finset.univ) : sProp 𝕄) ⊢ owns (c : Thread nD τ) M q X := by
  unfold owns; iintro H; iexists (M.view.write (Elt F) g X Finset.univ); isplitr
  · ipureintro; exact View.read_write_univ _ _
  iexact H

/-- Before a transfer: the tokens of the two cells it credits, its source, and its destination. -/
def sendPre (aS aR : Fin 4) (c : Dev nD) (src dst : J → Memref sig .tc .vmem S32x768 .bf16) (q : J → PosShare TreeShare)
    (X : J → Vec F S32x768 .bf16) (j : J) : sProp 𝕄 :=
  iprop((dutyTok ER (dC aS c j) 0 0 ∗ dutyTok ER (dC aR (nxt c j) j) 0 0) ∗ owns (c : Thread nD τ) (src j) (q j) (X j) ∗ ownsE (nxt c j) (dst j))
/-- After it: the credit to wait for the source. -/
def sendPost (aS : Fin 4) (c : Dev nD) (j : J) : sProp 𝕄 := cred (tallyAt (dC aS c j) () N)

/-- A transfer to the device of an offset. -/
theorem send_step {aS aR : Fin 4} {c dst : Dev nD} {n : ℕ} (hn : n < 31) {srcs dsts : J → Memref sig .tc .vmem S32x768 .bf16}
    {q : J → PosShare TreeShare} {X : J → Vec F S32x768 .bf16} (O' : CellTallies nD τ sig Unit)
    (hp₁ : ∀ j, (owns (c : Thread nD τ) (srcs j) (q j) (X j) : sProp 𝕄) ⊢ dmaPay m c (aS, j))
    (hp₂ : ∀ j, (owns (nxt c j : Thread nD τ) (dsts j) fullShare (X j) : sProp 𝕄) ⊢ dmaPay m (nxt c j) (aR, j))
    {α : Type} {k : PUnit → Prog (TpuEff nD τ sig (Elt F) Λ₀ .tc) α} {Q : α → sProp 𝕄} {R : sProp 𝕄}
    {s s' : DmaSem sig} {M M' : Memref sig .tc .vmem S32x768 .bf16}
    {hsc : (M' : Memref sig (Dev.tc dst : Thread nD τ).2.kind .vmem S32x768 .bf16).view.ref.isScScratch = false}
    {hM : M.view.WordExact} {hM' : (M' : Memref sig (Dev.tc dst : Thread nD τ).2.kind .vmem S32x768 .bf16).view.WordExact}
    {hT : DmaTarget.Typed .vmem (.dma s') (.remote (Dev.tc dst : Thread nD τ) (M' : Memref sig (Dev.tc dst : Thread nD τ).2.kind .vmem S32x768 .bf16) (.dma s) hsc)}
    (hd : dst = nxt c ⟨n, hn⟩) (hs : s = dsem aS ⟨n, hn⟩) (hs' : s' = dsem aR ⟨n, hn⟩) (hsrc : M = srcs ⟨n, hn⟩) (hdst : M' = dsts ⟨n, hn⟩)
    (hN : M'.view.dmaCredit = N)
    (h : St m K c (fun n => O' + oDma aR c n) (sendPre aS aR c srcs dsts q X) (sendPost aS c) (n + 1) R ⊢ WP c (k ⟨⟩) Q) :
    St m K c (fun n => O' + oDma aR c n) (sendPre aS aR c srcs dsts q X) (sendPost aS c) n R
      ⊢ WP c (.op (.enqueueDma M (.remote (Dev.tc dst : Thread nD τ) M' (.dma s) hsc) (.dma s') hM hM' hT) k) Q := by
  subst hd hs hs' hsrc hdst
  unfold WP at h ⊢
  refine St_step hn ?_ h
  unfold sendPre sendPost owesE ownsE owns
  iintro ⟨#HR, ⟨%W, HO⟩, ⟨Ht, Ht'⟩, ⟨%fs, %hfs, Hsrc⟩, ⟨%Y, %fd, %hfd, Hdst⟩⟩ Hk
  iapply (Rounds.wp_send_pointsTo 𝒱₀ ER (Rd m) (c : Thread nD τ) none (c' := (nxt c ⟨n, hn⟩ : Thread nD τ)) (κ₁ := K (c, some (aS, ⟨n, hn⟩)))
      (κ₂ := K (nxt c ⟨n, hn⟩, some (aR, ⟨n, hn⟩))) (src := srcs ⟨n, hn⟩) (dst := dsts ⟨n, hn⟩) (q := q ⟨n, hn⟩)
      (r₁ := 0) (r₂ := 0) (d₁ := (0 : J)) (d₂ := (0 : J)) (fs := fs) (fd := fd)
      (by rw [duties_dma]; exact Finset.mem_singleton_self _) (by rw [duties_dma]; exact Finset.mem_singleton_self _)
      () () N (show (dsts ⟨n, hn⟩).view.amount (.dma (dsem aR ⟨n, hn⟩)) = N from hN) (amount_dma m c aS ⟨n, hn⟩ 0) (amount_dma m (nxt c ⟨n, hn⟩) aR ⟨n, hn⟩ 0) (O₀ := O' + oDma aR c n) (O' + oDma aR c (n + 1))
      (by rw [oDma_step aR c n hn]; exact (add_assoc _ _ _).symm) (W := W)
      (by
        rw [payload_dma]; refine BI.Entails.trans ?_ (hp₁ _); rw [← hfs]
        exact owns_intro (c : Thread nD τ) (srcs ⟨n, hn⟩) (q ⟨n, hn⟩) fs)
      (by
        rw [payload_dma]; refine BI.Entails.trans ?_ (hp₂ _); rw [hfs]
        exact owns_written (nxt c ⟨n, hn⟩) (dsts ⟨n, hn⟩) fullShare fd (X ⟨n, hn⟩))) $$ [Hsrc Hdst HO Ht Ht']
  · isplitr; · iapply (inv_of m K (c, some (aS, ⟨n, hn⟩))); iexact HR
    isplitr; · iapply (inv_of m K (nxt c ⟨n, hn⟩, some (aR, ⟨n, hn⟩))); iexact HR
    isplitl [Hsrc]; · iexact Hsrc
    isplitl [Hdst]; · iexact Hdst
    isplitl [HO]; · iexact HO
    isplitl [Ht]; · iexact Ht
    isplitr; · iapply (reached_of m K (c, some (aS, ⟨n, hn⟩))); iexact HR
    isplitl [Ht']; · iexact Ht'
    iapply (reached_of m K (nxt c ⟨n, hn⟩, some (aR, ⟨n, hn⟩))); iexact HR
  iintro ⟨Hc, HO⟩
  iapply Hk
  isplitl [HO]
  · iexists W; iexact HO
  iexact Hc

/-! ## Loads and stores -/

/-- A load from a memref owned at `X`. -/
theorem load_step {c : Dev nD} {sp : CoreSpace} {sh : Shape} {e : EltTy} {M : Memref sig .tc sp sh e} {q : PosShare TreeShare} {X : sh.Idx → Elt F e} {r : Rect sh} {α : Type} {Q : α → sProp 𝕄} {S S' : sProp 𝕄}
    {hl : M.view.LoadsAt r.toLoadRect} {k : (r.shape.Idx → Elt F e) → Prog (TpuEff nD τ sig (Elt F) Λ₀ .tc) α}
    (ho : S ⊢ iprop(owns (c : Thread nD τ) M q X ∗ S')) (hb : iprop(owns (c : Thread nD τ) M q X ∗ S') ⊢ S)
    (v : r.shape.Idx → Elt F e) (hv : (fun j => X (r.emb j)) = v)
    (h : S ⊢ WP c (k v) Q) : S ⊢ WP c (.op (.load M r.toLoadRect hl) k) Q := by
  subst hv
  unfold WP at h ⊢
  refine ho.trans ?_
  iintro ⟨H, HS⟩
  ihave H' := (show owns (c : Thread nD τ) M q X ⊢ iprop(∃ g, ⌜M.view.read (Elt F) g = X⌝ ∗ M.view.loc (c : Thread nD τ) ↦[M.view.set]{q} g) from .rfl) $$ H
  icases H' with ⟨%g, %hg, H⟩
  iapply (wp_load_rect 𝒱₀ (c : Thread nD τ) none Set.univ (m := M) (r := r) (S := M.view.set) (View.set_slice_subset _ r)) $$ H
  iintro H
  rw [show (M.access r).read (Elt F) g = fun j => X (r.emb j) from by rw [← hg]; rfl]
  iapply h
  iapply hb
  isplitl [H]
  · unfold owns; iexists g; isplitr; · ipureintro; exact hg
    iexact H
  iexact HS

/-- A load of a slice of a memref, the slice owned. -/
theorem load_slice_step {c : Dev nD} {sp : CoreSpace} {sh : Shape} {e : EltTy} {M : Memref sig .tc sp sh e} {q : PosShare TreeShare} {r : Rect sh} {α : Type} {Q : α → sProp 𝕄} {S S' : sProp 𝕄}
    {hl : M.view.LoadsAt r.toLoadRect} {hr : ∀ a, r.stride a = 1} {X : r.shape.Idx → Elt F e}
    {k : (r.shape.Idx → Elt F e) → Prog (TpuEff nD τ sig (Elt F) Λ₀ .tc) α}
    (ho : S ⊢ iprop(owns (c : Thread nD τ) (M.slice r hr) q X ∗ S')) (hb : iprop(owns (c : Thread nD τ) (M.slice r hr) q X ∗ S') ⊢ S)
    (h : S ⊢ WP c (k X) Q) : S ⊢ WP c (.op (.load M r.toLoadRect hl) k) Q := by
  unfold WP at h ⊢
  refine ho.trans ?_
  iintro ⟨H, HS⟩
  ihave H' := (show owns (c : Thread nD τ) (M.slice r hr) q X ⊢ iprop(∃ g, ⌜(M.slice r hr).view.read (Elt F) g = X⌝ ∗ (M.slice r hr).view.loc (c : Thread nD τ) ↦[(M.slice r hr).view.set]{q} g) from .rfl) $$ H
  icases H' with ⟨%g, %hg, H⟩
  iapply (wp_load_rect 𝒱₀ (c : Thread nD τ) none Set.univ (m := M) (r := r) (S := (M.slice r hr).view.set) subset_rfl) $$ H
  iintro H
  rw [show (M.access r).read (Elt F) g = X from hg]
  iapply h
  iapply hb
  isplitl [H]
  · unfold owns; iexists g; isplitr; · ipureintro; exact hg
    iexact H
  iexact HS

/-- A store into a memref owned at `X`: it is then owned at any `X'` that has what was stored inside the rectangle and
    `X` outside. -/
theorem store_step {c : Dev nD} {sp : CoreSpace} {sh : Shape} {e : EltTy} {M : Memref sig .tc sp sh e} {r : Rect sh} {α : Type} {Q : α → sProp 𝕄} {S' : sProp 𝕄}
    {w : r.shape.Idx → Elt F e} {hx : (M.access r).Stores Finset.univ} {hm : Finset.univ = Finset.univ ∨ ∀ a, r.stride a = 1}
    {k : PUnit → Prog (TpuEff nD τ sig (Elt F) Λ₀ .tc) α} (X X' : sh.Idx → Elt F e)
    (hin : ∀ j, X' (r.emb j) = w j) (hout : ∀ i, i ∉ Finset.univ.map r.emb → X' i = X i)
    (h : iprop(owns (c : Thread nD τ) M fullShare X' ∗ S') ⊢ WP c (k ⟨⟩) Q) :
    iprop(owns (c : Thread nD τ) M fullShare X ∗ S') ⊢ WP c (.op (.store M r w Finset.univ hx hm) k) Q := by
  unfold WP at h ⊢
  iintro ⟨H, HS⟩
  ihave H' := (show owns (c : Thread nD τ) M fullShare X ⊢ iprop(∃ g, ⌜M.view.read (Elt F) g = X⌝ ∗ M.view.loc (c : Thread nD τ) ↦[M.view.set]{fullShare} g) from .rfl) $$ H
  icases H' with ⟨%g, %hg, H⟩
  iapply (wp_store 𝒱₀ (c : Thread nD τ) none Set.univ (m := M) (r := r) (w := w) (Mk := Finset.univ) (S := M.view.set) (View.set_slice_subset _ r)) $$ H
  iintro H
  iapply h
  isplitl [H]
  · unfold owns; iexists _; isplitr
    · ipureintro
      show M.view.read (Elt F) ((M.view.slice r).write (Elt F) g w Finset.univ) = X'
      funext i
      by_cases hi : i ∈ Finset.univ.map r.emb
      · obtain ⟨j, -, rfl⟩ := Finset.mem_map.mp hi
        exact (View.read_slice_write_emb (v := M.view) r g w (Finset.mem_univ j)).trans (hin j).symm
      · rw [View.read_slice_write_of_not_mem (v := M.view) r g w Finset.univ hi, hg]; exact (hout i hi).symm
    iexact H
  iexact HS

/-- A store into a slice of a memref, the slice owned. -/
theorem store_slice_step {c : Dev nD} {sp : CoreSpace} {sh : Shape} {e : EltTy} {M : Memref sig .tc sp sh e} {r : Rect sh} {α : Type} {Q : α → sProp 𝕄} {S' : sProp 𝕄}
    {w : r.shape.Idx → Elt F e} {hr : ∀ a, r.stride a = 1} {hx : (M.access r).Stores Finset.univ}
    {hm : Finset.univ = Finset.univ ∨ ∀ a, r.stride a = 1}
    {k : PUnit → Prog (TpuEff nD τ sig (Elt F) Λ₀ .tc) α} {X : r.shape.Idx → Elt F e}
    (h : iprop(owns (c : Thread nD τ) (M.slice r hr) fullShare w ∗ S') ⊢ WP c (k ⟨⟩) Q) :
    iprop(owns (c : Thread nD τ) (M.slice r hr) fullShare X ∗ S') ⊢ WP c (.op (.store M r w Finset.univ hx hm) k) Q := by
  unfold WP at h ⊢
  iintro ⟨H, HS⟩
  ihave H' := (show owns (c : Thread nD τ) (M.slice r hr) fullShare X ⊢ iprop(∃ g, ⌜(M.slice r hr).view.read (Elt F) g = X⌝ ∗ (M.slice r hr).view.loc (c : Thread nD τ) ↦[(M.slice r hr).view.set]{fullShare} g) from .rfl) $$ H
  icases H' with ⟨%g, %hg, H⟩
  iapply (wp_store 𝒱₀ (c : Thread nD τ) none Set.univ (m := M) (r := r) (w := w) (Mk := Finset.univ) (S := (M.slice r hr).view.set) subset_rfl) $$ H
  iintro H
  iapply h
  isplitl [H]
  · unfold owns; iexists _; isplitr
    · ipureintro
      exact View.read_write_univ (v := M.view.slice r) g w
    iexact H
  iexact HS
/-- A slot as a transfer writes it, at the slot's own shape, -/
theorem owns_slot (c : Dev nD) (j : J) (q : PosShare TreeShare) (X : Vec F S32x768 .bf16) :
    (owns (c : Thread nD τ) (slotM j) q X : sProp 𝕄) ⊢ owns (c : Thread nD τ) (slot3 j.succ) q (lift X) := by
  have hset : (slotM j).view.set = (slot3 j.succ).view.set := View.set_reshape ..
  unfold owns
  rw [hset]
  iintro ⟨%f, %hf, H⟩
  iexists f
  isplitr
  · ipureintro
    rw [← hf]
    funext i
    show _ = (slot3 j.succ).view.read (Elt F) f (Shape.reshapeEquiv _ ((Shape.reshapeEquiv _).symm i))
    rw [Equiv.apply_symm_apply]
  iexact H
/-- and back. -/
theorem slot_owns (c : Dev nD) (j : J) (q : PosShare TreeShare) (X : Vec F S32x768 .bf16) :
    (owns (c : Thread nD τ) (slot3 j.succ) q (lift X) : sProp 𝕄) ⊢ owns (c : Thread nD τ) (slotM j) q X := by
  have hset : (slotM j).view.set = (slot3 j.succ).view.set := View.set_reshape ..
  unfold owns
  rw [hset]
  iintro ⟨%f, %hf, H⟩
  iexists f
  isplitr
  · ipureintro
    funext i
    show (slot3 j.succ).view.read (Elt F) f (Shape.reshapeEquiv (squeezes_S1x32x768_S32x768).numel_eq i) = _
    rw [hf]; unfold lift; rw [Equiv.symm_apply_apply]
  iexact H

/-! ## Shares -/

instance elt_nonempty (e : EltTy) : Nonempty (Elt F e) :=
  match e with
  | .i1 => ⟨(0 : BitVec 1)⟩ | .i4 => ⟨(0 : BitVec 4)⟩ | .i8 => ⟨(0 : BitVec 8)⟩ | .i16 => ⟨(0 : BitVec 16)⟩
  | .i32 => ⟨(0 : BitVec 32)⟩ | .i64 => ⟨(0 : BitVec 64)⟩
  | .fp8e4m3 => ⟨FloatOps.ofBits .fp8e4m3 0⟩ | .fp8e5m2 => ⟨FloatOps.ofBits .fp8e5m2 0⟩
  | .bf16 => ⟨FloatOps.ofBits .bf16 0⟩ | .f16 => ⟨FloatOps.ofBits .f16 0⟩ | .f32 => ⟨FloatOps.ofBits .f32 0⟩

/-- A memref owned at `X`, as a points-to at contents that depend on `X` only. -/
theorem owns_canon (c : Dev nD) {sp : Space} {sh : Shape} {e : EltTy} (M : Memref sig .tc sp sh e) (q : PosShare TreeShare) (X : sh.Idx → Elt F e) :
    (owns (c : Thread nD τ) M q X : sProp 𝕄)
      = (M.view.loc (c : Thread nD τ) ↦[M.view.set]{q} (M.view.write (Elt F) (fun _ => Classical.arbitrary _) X Finset.univ)) := by
  have h : (owns (c : Thread nD τ) M q X : sProp 𝕄)
      ⊢ (M.view.loc (c : Thread nD τ) ↦[M.view.set]{q} (M.view.write (Elt F) (fun _ => Classical.arbitrary _) X Finset.univ)) := by
    unfold owns
    iintro ⟨%f, %hf, H⟩
    have e : (M.view.loc (c : Thread nD τ) ↦[M.view.set]{q} f : sProp 𝕄)
        = (M.view.loc (c : Thread nD τ) ↦[M.view.set]{q} (M.view.write (Elt F) (fun _ => Classical.arbitrary _) X Finset.univ)) :=
      pointsTo_congr fun i hi => by
        rw [← hf, View.write_read_eq_piecewise]; exact (Finset.piecewise_eq_of_mem _ _ _ hi).symm
    rw [← e]
    iexact H
  exact BI.Entails.antisymm h (owns_written c M q _ X)

/-- A memref owned at a share is it owned at the share's 32 leaves. -/
theorem owns_leaves (c : Dev nD) {sp : Space} {sh : Shape} {e : EltTy} (M : Memref sig .tc sp sh e) (q : PosShare TreeShare) (X : sh.Idx → Elt F e) :
    (owns (c : Thread nD τ) M q X : sProp 𝕄) = bigSep Finset.univ fun i : Fin (2 ^ 5) => owns (c : Thread nD τ) M (leaf 5 q i) X := by
  rw [owns_canon, ShareLeaves.pointsTo_leaves _ _ 5 q]
  exact bigSep_congr fun i _ => (owns_canon c M _ X).symm

end Cert.KernelIdeal.Attn

end
-- ==== Proof.KernelIdeal.Geom.lean ====
/-
# Where the body's operations act

The device, the rows and the semaphore that each operation of the body names, in closed form.
-/
module

public import proofs.«01_k».proof.Proof.KernelIdeal.Moves

@[expose] public section

set_option maxRecDepth 16384

noncomputable section

namespace Cert.KernelIdeal.Attn

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

theorem dev_all {f g : Dev nD → Dev nD} (h : ∀ c, f c = g c) (c : Dev nD) : f c = g c := h c

theorem rows_eq (M : Memref sig .tc .vmem S1024x768 .bf16) (d : Dev nD) {off : Fin 2 → ℕ} {hi : ∀ a, off a + S32x768.size a ≤ S1024x768.size a}
    {hr : ∀ a, (Rect.unit (s := S1024x768) off S32x768.size hi).stride a = 1} (h : off = ![32 * d.val, 0]) :
    M.slice (Rect.unit (s := S1024x768) off S32x768.size hi) hr = rowsM M d := by
  subst h; rfl

end Cert.KernelIdeal.Attn

end
-- ==== Proof.KernelIdeal.Regions.lean ====
/-
# Splitting the buffers

A [1024, 768] buffer is its 32 devices' rows, the receive buffer its 32 slots, and the devices are a device and
the 31 at its offsets.
-/
module

public import proofs.«01_k».proof.Proof.KernelIdeal.Geom

@[expose] public section

set_option maxRecDepth 16384

noncomputable section

namespace Cert.KernelIdeal.Attn

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable {m : (ℓ : Loc nD τ sig) → Buf (Elt F) ℓ}

/-! ## Families over the devices -/

theorem univ_nxt (c : Dev nD) : (Finset.univ : Finset (Dev nD)) = insert c (Finset.univ.map ⟨fun j => nxt c j, fun j j' h => by
    have hc : c.val < 32 := c.isLt; have := j.isLt; have := j'.isLt
    have := congrArg Fin.val h; simp only [nxt] at this; ext; omega⟩) := by
  ext d; have hd : d.val < 32 := d.isLt; have hc : c.val < 32 := c.isLt
  simp only [Finset.mem_univ, Finset.mem_insert, Finset.mem_map, Function.Embedding.coeFn_mk, true_and, true_iff]
  by_cases h : d = c
  · exact Or.inl h
  · have h' : d.val ≠ c.val := fun e => h (Fin.ext e)
    exact Or.inr ⟨⟨(d.val + 31 - c.val) % 32, by omega⟩, Fin.ext (show (c.val + (d.val + 31 - c.val) % 32 + 1) % 32 = d.val by omega)⟩

/-- A family over the devices is one device's and those at its offsets forward, -/
theorem devs_nxt (c : Dev nD) (Φ : Dev nD → sProp 𝕄) : bigSep Finset.univ Φ = iprop(Φ c ∗ bigSep Finset.univ fun j : J => Φ (nxt c j)) := by
  rw [univ_nxt c, bigSep_ins, bigSep_map]
  · rfl
  · intro h
    obtain ⟨j, -, e⟩ := Finset.mem_map.mp h
    have hc : c.val < 32 := c.isLt; have := j.isLt
    have := congrArg Fin.val e; simp only [nxt, Function.Embedding.coeFn_mk] at this; omega

theorem univ_prv (Φ : J → sProp 𝕄) : bigSep Finset.univ (fun j => Φ (rev j)) = bigSep Finset.univ Φ :=
  (bigSep_univ_equiv (⟨rev, rev, rev_rev, rev_rev⟩ : J ≃ J) Φ).symm

/-- or back. -/
theorem devs_prv (c : Dev nD) (Φ : Dev nD → sProp 𝕄) : bigSep Finset.univ Φ = iprop(Φ c ∗ bigSep Finset.univ fun j : J => Φ (prv c j)) := by
  rw [devs_nxt c, ← univ_prv]; simp only [nxt_rev]

/-! ## Rows -/

theorem rows_mem {d : Dev nD} {i : S1024x768.Idx} : i ∈ (rowsR d).set ↔ (i 0).val / 32 = d.val := by
  have h1 : (i 1).val < 768 := (i 1).isLt
  rw [Rect.mem_set_unit]
  constructor
  · intro h
    have h0 : 32 * d.val ≤ (i 0).val ∧ (i 0).val < 32 * d.val + 32 := h 0
    omega
  · intro h a
    match a with
    | 0 => show 32 * d.val ≤ (i 0).val ∧ (i 0).val < 32 * d.val + 32; omega
    | 1 => show 0 ≤ (i 1).val ∧ (i 1).val < 0 + 768; omega

theorem rows_disj (d d' : Dev nD) (h : d ≠ d') : Disjoint (rowsR d).set (rowsR d').set :=
  Finset.disjoint_left.mpr fun i hi hi' => h (Fin.ext ((rows_mem.mp hi).symm.trans (rows_mem.mp hi')))

theorem rows_cover : (Finset.univ : Finset (Dev nD)).biUnion (fun d => (rowsR d).set) = Finset.univ := by
  ext i
  simp only [Finset.mem_biUnion, Finset.mem_univ, true_and, iff_true]
  have : (i 0).val < 1024 := (i 0).isLt
  exact ⟨⟨(i 0).val / 32, by show _ < 32; omega⟩, rows_mem.mpr rfl⟩

/-- A [1024, 768] buffer, owned, is each device's rows owned, -/
theorem rows_split (c : Dev nD) (M : Memref sig .tc .vmem S1024x768 .bf16) (q : PosShare TreeShare) (X : S1024x768.Idx → Elt F .bf16) :
    (owns (c : Thread nD τ) M q X : sProp 𝕄) ⊢ bigSep Finset.univ fun d => owns (c : Thread nD τ) (rowsM M d) q (fun j => X ((rowsR d).emb j)) :=
  owns_rects _ _ _ (r := rowsR) (fun _ _ => rfl) rows_disj rows_cover X
/-- and back. -/
theorem rows_join (c : Dev nD) (M : Memref sig .tc .vmem S1024x768 .bf16) (q : PosShare TreeShare) (X : S1024x768.Idx → Elt F .bf16) :
    (bigSep Finset.univ fun d => owns (c : Thread nD τ) (rowsM M d) q (fun j => X ((rowsR d).emb j))) ⊢ (owns (c : Thread nD τ) M q X : sProp 𝕄) :=
  owns_of_rects _ _ _ (r := rowsR) (fun _ _ => rfl) rows_disj rows_cover X

/-- The buffer whose rows are each device's. -/
def rowsOf (Y : Dev nD → S32x768.Idx → Elt F .bf16) : S1024x768.Idx → Elt F .bf16 := fun i =>
  Y ⟨(i 0).val / 32, by have : (i 0).val < 1024 := (i 0).isLt; show _ < 32; omega⟩ (ix2 ⟨(i 0).val % 32, Nat.mod_lt _ (by decide)⟩ (i 1))

theorem rowsOf_rows (Y : Dev nD → S32x768.Idx → Elt F .bf16) (d : Dev nD) : (fun j => rowsOf Y ((rowsR d).emb j)) = Y d := by
  funext j
  have h0 : (j 0).val < 32 := (j 0).isLt
  have e0 : ((rowsR d).emb j 0).val = 32 * d.val + (j 0).val := by
    show 32 * d.val + 1 * (j 0).val = _; omega
  have e1 : ((rowsR d).emb j 1).val = (j 1).val := by
    show 0 + 1 * (j 1).val = _; omega
  unfold rowsOf
  congr 1
  · exact Fin.ext (show ((rowsR d).emb j 0).val / 32 = d.val by omega)
  · funext a
    match a with
    | 0 => exact Fin.ext (show ((rowsR d).emb j 0).val % 32 = (j 0).val by omega)
    | 1 => exact Fin.ext e1

theorem arr_nonempty (s : Shape) (e : EltTy) : Nonempty (s.Idx → Elt F e) := ⟨fun _ => Classical.choice (elt_nonempty e)⟩

theorem all_mono {I : Type} [Fintype I] {Φ Ψ : I → sProp 𝕄} (h : ∀ i, Φ i ⊢ Ψ i) : bigSep Finset.univ Φ ⊢ bigSep Finset.univ Ψ :=
  bigSep_mono fun i _ => h i

/-- The result buffer from every device's reduced rows. -/
theorem full_join (c : Dev nD) : (bigSep Finset.univ fun d => owns (c : Thread nD τ) (rowsM outM d) fullShare (red m d)) ⊢ (owns (c : Thread nD τ) outM fullShare (full m) : sProp 𝕄) := by
  refine BI.Entails.trans (Entails.of_eq (bigSep_congr fun d _ => ?_)) (rows_join c outM fullShare (full m))
  rw [← rowsOf_rows (red m) d]; rfl

/-- Rows owned at some contents each are the buffer owned at some contents, -/
theorem rows_joinE (c : Dev nD) (M : Memref sig .tc .vmem S1024x768 .bf16) :
    (bigSep Finset.univ fun d => ownsE (F := F) c (rowsM M d)) ⊢ (ownsE c M : sProp 𝕄) := by
  unfold ownsE
  haveI : Nonempty (S32x768.Idx → Elt F .bf16) := arr_nonempty _ _
  refine (BI.bigSep_exists_pi Finset.univ fun d X => owns (c : Thread nD τ) (rowsM M d) fullShare X).trans ?_
  iintro ⟨%Y, H⟩
  iexists rowsOf Y
  iapply rows_join
  iapply (Entails.of_eq (bigSep_congr fun d _ => congrArg (owns (c : Thread nD τ) (rowsM M d) fullShare) (rowsOf_rows Y d).symm)) $$ H
/-- and back. -/
theorem rows_splitE (c : Dev nD) (M : Memref sig .tc .vmem S1024x768 .bf16) :
    (ownsE c M : sProp 𝕄) ⊢ bigSep Finset.univ fun d => ownsE (F := F) c (rowsM M d) := by
  unfold ownsE
  iintro ⟨%X, H⟩
  iapply (all_mono fun d => (show (owns (c : Thread nD τ) (rowsM M d) fullShare (fun j => X ((rowsR d).emb j)) : sProp 𝕄)
    ⊢ iprop(∃ Y, owns (c : Thread nD τ) (rowsM M d) fullShare Y) by iintro H; iexists _; iexact H))
  iapply rows_split; iexact H

/-! ## Slots -/

theorem slot_mem {k : Fin 32} {i : S32x32x768.Idx} : i ∈ (slotR k).set ↔ (i 0).val = k.val := by
  have h1 : (i 1).val < 32 := (i 1).isLt
  have h2 : (i 2).val < 768 := (i 2).isLt
  rw [Rect.mem_set_unit]
  constructor
  · intro h
    have h0 : k.val ≤ (i 0).val ∧ (i 0).val < k.val + 1 := h 0
    omega
  · intro h a
    match a with
    | 0 => show k.val ≤ (i 0).val ∧ (i 0).val < k.val + 1; omega
    | 1 => show 0 ≤ (i 1).val ∧ (i 1).val < 0 + 32; omega
    | 2 => show 0 ≤ (i 2).val ∧ (i 2).val < 0 + 768; omega

theorem slot_disj (k k' : Fin 32) (h : k ≠ k') : Disjoint (slotR k).set (slotR k').set :=
  Finset.disjoint_left.mpr fun i hi hi' => h (Fin.ext ((slot_mem.mp hi).symm.trans (slot_mem.mp hi')))

theorem slot_cover : (Finset.univ : Finset (Fin 32)).biUnion (fun k => (slotR k).set) = Finset.univ := by
  ext i
  simp only [Finset.mem_biUnion, Finset.mem_univ, true_and, iff_true]
  exact ⟨i 0, slot_mem.mpr rfl⟩

/-- The receive buffer whose slots are given. -/
def slotsOf (Y : Fin 32 → S1x32x768.Idx → Elt F .bf16) : S32x32x768.Idx → Elt F .bf16 := fun i =>
  Y (i 0) (fun a => match a with
    | 0 => (⟨0, by decide⟩ : Fin 1)
    | 1 => i 1
    | 2 => i 2)

theorem slotsOf_slot (Y : Fin 32 → S1x32x768.Idx → Elt F .bf16) (k : Fin 32) : (fun j => slotsOf Y ((slotR k).emb j)) = Y k := by
  funext j
  have h0 : (j 0).val < 1 := (j 0).isLt
  unfold slotsOf
  congr 1
  · exact Fin.ext (show k.val + 1 * (j 0).val = k.val by omega)
  · funext a
    match a with
    | 0 => exact Fin.ext (show 0 = (j 0).val by omega)
    | 1 => exact Fin.ext (show 0 + 1 * (j 1).val = (j 1).val by omega)
    | 2 => exact Fin.ext (show 0 + 1 * (j 2).val = (j 2).val by omega)

theorem lift_surj (Y : S1x32x768.Idx → Elt F .bf16) : ∃ X : Vec F S32x768 .bf16, lift X = Y :=
  ⟨fun i => Y (Shape.reshapeEquiv (squeezes_S1x32x768_S32x768).numel_eq i), by
    funext i; unfold lift; beta_reduce; rw [Equiv.apply_symm_apply]⟩

theorem fin_succ (Φ : Fin 32 → sProp 𝕄) : bigSep Finset.univ Φ = iprop(Φ 0 ∗ bigSep Finset.univ fun j : J => Φ j.succ) := by
  rw [Fin.univ_succ, Finset.cons_eq_insert, bigSep_ins (by simp), bigSep_map]; rfl
theorem fin_last (Φ : Fin 32 → sProp 𝕄) : bigSep Finset.univ Φ = iprop(Φ (Fin.last 31) ∗ bigSep Finset.univ fun j : J => Φ j.castSucc) := by
  rw [Fin.univ_castSuccEmb, Finset.cons_eq_insert, bigSep_ins (by simpa using fun x : Fin 31 => Fin.castSucc_ne_last x), bigSep_map]; rfl

/-- The receive buffer is its unused slot and the slot of each offset, -/
theorem slots_splitE (c : Dev nD) : (ownsE c rsM : sProp 𝕄) ⊢ iprop(ownsE c (slot3 0) ∗ bigSep Finset.univ fun j : J => ownsE (F := F) c (slotM j)) := by
  unfold ownsE
  iintro ⟨%X, H⟩
  have h1 : (owns (c : Thread nD τ) rsM fullShare X : sProp 𝕄) ⊢ iprop(owns (c : Thread nD τ) (slot3 0) fullShare (fun i => X ((slotR 0).emb i))
      ∗ bigSep Finset.univ fun j : J => owns (c : Thread nD τ) (slot3 j.succ) fullShare (fun i => X ((slotR j.succ).emb i))) :=
    (owns_rects (c : Thread nD τ) rsM fullShare (r := slotR) (fun _ _ => rfl) slot_disj slot_cover X).trans (Entails.of_eq (fin_succ _))
  ihave H' := h1 $$ H
  icases H' with ⟨H0, H⟩
  isplitl [H0]
  · iexists _; iexact H0
  iapply (all_mono fun (j : J) => (show (owns (c : Thread nD τ) (slot3 j.succ) fullShare (fun i => X ((slotR j.succ).emb i)) : sProp 𝕄)
    ⊢ iprop(∃ Y, owns (c : Thread nD τ) (slotM j) fullShare Y) by
      obtain ⟨Y, hY⟩ := lift_surj fun i => X ((slotR j.succ).emb i)
      rw [← hY]
      iintro H; iexists Y; iapply slot_owns; iexact H)) $$ H
/-- and back. -/
theorem slots_joinE (c : Dev nD) : iprop(ownsE c (slot3 0) ∗ bigSep Finset.univ fun j : J => ownsE (F := F) c (slotM j)) ⊢ (ownsE c rsM : sProp 𝕄) := by
  unfold ownsE
  iintro ⟨H0, H⟩
  ihave H' := (all_mono fun (j : J) => (show iprop(∃ Y, owns (c : Thread nD τ) (slotM j) fullShare Y)
    ⊢ (iprop(∃ Y, owns (c : Thread nD τ) (slot3 j.succ) fullShare Y) : sProp 𝕄) by
      iintro ⟨%Y, H⟩; iexists _; iapply owns_slot; iexact H)) $$ H
  ihave H2 := (Entails.of_eq (fin_succ fun k => iprop(∃ Y, owns (c : Thread nD τ) (slot3 k) fullShare Y)).symm) $$ [H0 H']
  · isplitl [H0]; · iexact H0
    iexact H'
  haveI : Nonempty (S1x32x768.Idx → Elt F .bf16) := arr_nonempty _ _
  ihave H3 := (BI.bigSep_exists_pi Finset.univ fun k Y => owns (c : Thread nD τ) (slot3 k) fullShare Y) $$ H2
  icases H3 with ⟨%Y, H⟩
  iexists slotsOf Y
  iapply (owns_of_rects (c : Thread nD τ) rsM fullShare (r := slotR) (fun _ _ => rfl) slot_disj slot_cover (slotsOf Y))
  iapply (Entails.of_eq (bigSep_congr fun k _ => by rw [slotsOf_slot])) $$ H

/-- A device's reduced rows are 31 shares of them and one more. -/
theorem rows_leaves (c : Dev nD) (X : Vec F S32x768 .bf16) : (owns (c : Thread nD τ) (rowsM outM c) fullShare X : sProp 𝕄)
    = iprop(owns (c : Thread nD τ) (rowsM outM c) (leaf 5 fullShare (Fin.last 31)) X
      ∗ bigSep Finset.univ fun j : J => owns (c : Thread nD τ) (rowsM outM c) (leaf 5 fullShare j.castSucc) X) := by
  rw [owns_leaves]; exact fin_last _

end Cert.KernelIdeal.Attn

end
-- ==== Proof.KernelIdeal.Phases.lean ====
/-
# The phases of a device's body

The state before and after every phase, and the steps of `Steps` and `Moves` at the phases' own resources.
-/
module

public import proofs.«01_k».proof.Proof.KernelIdeal.Regions
public import Idealize.ShloMosaic.Lib.Pipeline.Value

@[expose] public section

set_option maxRecDepth 16384

noncomputable section

namespace Cert.KernelIdeal.Attn

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable {m : (ℓ : Loc nD τ sig) → Buf (Elt F) ℓ}
variable {K : Dev nD × Option (Fin 4 × J) → ℕ}

/-! ## Framing -/

/-- The part of a state that no offset of the phase is about, taken out -/
theorem St_out {c : Dev nD} {O : ℕ → CellTallies nD τ sig Unit} {Φ Ψ : J → sProp 𝕄} {n : ℕ} {A R : sProp 𝕄} :
    St m K c O Φ Ψ n iprop(A ∗ R) ⊢ iprop(A ∗ St m K c O Φ Ψ n R) := by
  unfold St; iintro ⟨H1, H2, H3, H4, HA, HR⟩
  isplitl [HA]; · iexact HA
  isplitl [H1]; · iexact H1
  isplitl [H2]; · iexact H2
  isplitl [H3]; · iexact H3
  isplitl [H4] <;> iassumption
/-- and put back. -/
theorem St_in {c : Dev nD} {O : ℕ → CellTallies nD τ sig Unit} {Φ Ψ : J → sProp 𝕄} {n : ℕ} {A R : sProp 𝕄} :
    iprop(A ∗ St m K c O Φ Ψ n R) ⊢ St m K c O Φ Ψ n iprop(A ∗ R) := by
  unfold St; iintro ⟨HA, H1, H2, H3, H4, HR⟩
  isplitl [H1]; · iexact H1
  isplitl [H2]; · iexact H2
  isplitl [H3]; · iexact H3
  isplitl [H4]; · iexact H4
  isplitl [HA] <;> iassumption

/-- What an offset already passed has, taken out -/
theorem done_out {c : Dev nD} {O : ℕ → CellTallies nD τ sig Unit} {Φ Ψ : J → sProp 𝕄} {n : ℕ} (hn : n < 31) {R : sProp 𝕄} :
    St m K c O Φ Ψ (n + 1) R ⊢ iprop(Ψ ⟨n, hn⟩ ∗ (Ψ ⟨n, hn⟩ -∗ St m K c O Φ Ψ (n + 1) R)) := by
  unfold St
  rw [done_step n hn, bigSep_ins (by simp)]
  iintro ⟨H1, H2, H3, ⟨H, H4⟩, HR⟩
  isplitl [H]; · iexact H
  iintro H
  isplitl [H1]; · iexact H1
  isplitl [H2]; · iexact H2
  isplitl [H3]; · iexact H3
  isplitl [H H4]
  · isplitl [H] <;> iassumption
  iexact HR

/-! ## The computation -/

/-- The device's five argument arrays, staged. -/
def Args (m : (ℓ : Loc nD τ sig) → Buf (Elt F) ℓ) (c : Dev nD) : sProp 𝕄 :=
  iprop(owns (c : Thread nD τ) (Memref.whole cc0_stg0_0 : Memref sig .tc .vmem S1024x768 .bf16) fullShare (blks m c).x
    ∗ owns (c : Thread nD τ) (Memref.whole cc0_stg1_0 : Memref sig .tc .vmem S768x512 .bf16) fullShare (blks m c).wq
    ∗ owns (c : Thread nD τ) (Memref.whole cc0_stg2_0 : Memref sig .tc .vmem S2x512x8x64 .bf16) fullShare (blks m c).k
    ∗ owns (c : Thread nD τ) (Memref.whole cc0_stg3_0 : Memref sig .tc .vmem S2x512x8x64 .bf16) fullShare (blks m c).v
    ∗ owns (c : Thread nD τ) (Memref.whole cc0_stg4_0 : Memref sig .tc .vmem S512x768 .bf16) fullShare (blks m c).wo)

/-- The state while the partial output is computed, its buffer at `X`. -/
def SComp (m : (ℓ : Loc nD τ sig) → Buf (Elt F) ℓ) (c : Dev nD) (X : S1024x768.Idx → Elt F .bf16) (R : sProp 𝕄) : sProp 𝕄 :=
  iprop(owns (c : Thread nD τ) partM fullShare X ∗ Args m c ∗ R)

section Comp

theorem load_x {c : Dev nD} {X : S1024x768.Idx → Elt F .bf16} {R : sProp 𝕄} {α : Type} {Q : α → sProp 𝕄}
    {hl} {k : (S1024x768.Idx → Elt F .bf16) → Prog (TpuEff nD τ sig (Elt F) Λ₀ .tc) α} (h : SComp m c X R ⊢ WP c (k (blks m c).x) Q) :
    SComp m c X R ⊢ WP c (.op (.load (Memref.whole cc0_stg0_0 : Memref sig .tc .vmem S1024x768 .bf16)
      (Rect.unit (s := S1024x768) ![0, 0] S1024x768.size inb_S1024x768_S1024x768_0_0).toLoadRect hl) k) Q := by
  refine load_step (q := fullShare) (X := (blks m c).x) (S' := iprop(owns (c : Thread nD τ) partM fullShare X
    ∗ owns (c : Thread nD τ) (Memref.whole cc0_stg1_0 : Memref sig .tc .vmem S768x512 .bf16) fullShare (blks m c).wq
    ∗ owns (c : Thread nD τ) (Memref.whole cc0_stg2_0 : Memref sig .tc .vmem S2x512x8x64 .bf16) fullShare (blks m c).k
    ∗ owns (c : Thread nD τ) (Memref.whole cc0_stg3_0 : Memref sig .tc .vmem S2x512x8x64 .bf16) fullShare (blks m c).v
    ∗ owns (c : Thread nD τ) (Memref.whole cc0_stg4_0 : Memref sig .tc .vmem S512x768 .bf16) fullShare (blks m c).wo ∗ R)) ?_ ?_ _ ?_ h
  · unfold SComp Args; iintro ⟨HX, ⟨H0, H1, H2, H3, H4⟩, HR⟩
    isplitl [H0]; · iexact H0
    isplitl [HX]; · iexact HX
    isplitl [H1]; · iexact H1
    isplitl [H2]; · iexact H2
    isplitl [H3]; · iexact H3
    isplitl [H4] <;> iassumption
  · unfold SComp Args; iintro ⟨H0, HX, H1, H2, H3, H4, HR⟩
    isplitl [HX]; · iexact HX
    isplitr [HR]
    · isplitl [H0]; · iexact H0
      isplitl [H1]; · iexact H1
      isplitl [H2]; · iexact H2
      isplitl [H3] <;> iassumption
    iexact HR
  · funext j; congr 1; funext a
    match a with
    | 0 => exact Fin.ext (show 0 + 1 * (j 0).val = (j 0).val by omega)
    | 1 => exact Fin.ext (show 0 + 1 * (j 1).val = (j 1).val by omega)

theorem load_wq {c : Dev nD} {X : S1024x768.Idx → Elt F .bf16} {R : sProp 𝕄} {α : Type} {Q : α → sProp 𝕄}
    {hl} {k : (S768x512.Idx → Elt F .bf16) → Prog (TpuEff nD τ sig (Elt F) Λ₀ .tc) α} (h : SComp m c X R ⊢ WP c (k (blks m c).wq) Q) :
    SComp m c X R ⊢ WP c (.op (.load (Memref.whole cc0_stg1_0 : Memref sig .tc .vmem S768x512 .bf16)
      (Rect.unit (s := S768x512) ![0, 0] S768x512.size inb_S768x512_S768x512_0_0).toLoadRect hl) k) Q := by
  refine load_step (q := fullShare) (X := (blks m c).wq) (S' := iprop(owns (c : Thread nD τ) partM fullShare X
    ∗ owns (c : Thread nD τ) (Memref.whole cc0_stg0_0 : Memref sig .tc .vmem S1024x768 .bf16) fullShare (blks m c).x
    ∗ owns (c : Thread nD τ) (Memref.whole cc0_stg2_0 : Memref sig .tc .vmem S2x512x8x64 .bf16) fullShare (blks m c).k
    ∗ owns (c : Thread nD τ) (Memref.whole cc0_stg3_0 : Memref sig .tc .vmem S2x512x8x64 .bf16) fullShare (blks m c).v
    ∗ owns (c : Thread nD τ) (Memref.whole cc0_stg4_0 : Memref sig .tc .vmem S512x768 .bf16) fullShare (blks m c).wo ∗ R)) ?_ ?_ _ ?_ h
  · unfold SComp Args; iintro ⟨HX, ⟨H0, H1, H2, H3, H4⟩, HR⟩
    isplitl [H1]; · iexact H1
    isplitl [HX]; · iexact HX
    isplitl [H0]; · iexact H0
    isplitl [H2]; · iexact H2
    isplitl [H3]; · iexact H3
    isplitl [H4] <;> iassumption
  · unfold SComp Args; iintro ⟨H1, HX, H0, H2, H3, H4, HR⟩
    isplitl [HX]; · iexact HX
    isplitr [HR]
    · isplitl [H0]; · iexact H0
      isplitl [H1]; · iexact H1
      isplitl [H2]; · iexact H2
      isplitl [H3] <;> iassumption
    iexact HR
  · funext j; congr 1; funext a
    match a with
    | 0 => exact Fin.ext (show 0 + 1 * (j 0).val = (j 0).val by omega)
    | 1 => exact Fin.ext (show 0 + 1 * (j 1).val = (j 1).val by omega)

theorem load_k {c : Dev nD} {X : S1024x768.Idx → Elt F .bf16} {R : sProp 𝕄} {α : Type} {Q : α → sProp 𝕄}
    {r : Rect S2x512x8x64} {hl} {k : (r.shape.Idx → Elt F .bf16) → Prog (TpuEff nD τ sig (Elt F) Λ₀ .tc) α}
    (h : SComp m c X R ⊢ WP c (k fun j => (blks m c).k (r.emb j)) Q) :
    SComp m c X R ⊢ WP c (.op (.load (Memref.whole cc0_stg2_0 : Memref sig .tc .vmem S2x512x8x64 .bf16) r.toLoadRect hl) k) Q := by
  refine load_step (q := fullShare) (X := (blks m c).k) (S' := iprop(owns (c : Thread nD τ) partM fullShare X
    ∗ owns (c : Thread nD τ) (Memref.whole cc0_stg0_0 : Memref sig .tc .vmem S1024x768 .bf16) fullShare (blks m c).x
    ∗ owns (c : Thread nD τ) (Memref.whole cc0_stg1_0 : Memref sig .tc .vmem S768x512 .bf16) fullShare (blks m c).wq
    ∗ owns (c : Thread nD τ) (Memref.whole cc0_stg3_0 : Memref sig .tc .vmem S2x512x8x64 .bf16) fullShare (blks m c).v
    ∗ owns (c : Thread nD τ) (Memref.whole cc0_stg4_0 : Memref sig .tc .vmem S512x768 .bf16) fullShare (blks m c).wo ∗ R)) ?_ ?_ _ rfl h
  · unfold SComp Args; iintro ⟨HX, ⟨H0, H1, H2, H3, H4⟩, HR⟩
    isplitl [H2]; · iexact H2
    isplitl [HX]; · iexact HX
    isplitl [H0]; · iexact H0
    isplitl [H1]; · iexact H1
    isplitl [H3]; · iexact H3
    isplitl [H4] <;> iassumption
  · unfold SComp Args; iintro ⟨H2, HX, H0, H1, H3, H4, HR⟩
    isplitl [HX]; · iexact HX
    isplitr [HR]
    · isplitl [H0]; · iexact H0
      isplitl [H1]; · iexact H1
      isplitl [H2]; · iexact H2
      isplitl [H3] <;> iassumption
    iexact HR

theorem load_v {c : Dev nD} {X : S1024x768.Idx → Elt F .bf16} {R : sProp 𝕄} {α : Type} {Q : α → sProp 𝕄}
    {r : Rect S2x512x8x64} {hl} {k : (r.shape.Idx → Elt F .bf16) → Prog (TpuEff nD τ sig (Elt F) Λ₀ .tc) α}
    (h : SComp m c X R ⊢ WP c (k fun j => (blks m c).v (r.emb j)) Q) :
    SComp m c X R ⊢ WP c (.op (.load (Memref.whole cc0_stg3_0 : Memref sig .tc .vmem S2x512x8x64 .bf16) r.toLoadRect hl) k) Q := by
  refine load_step (q := fullShare) (X := (blks m c).v) (S' := iprop(owns (c : Thread nD τ) partM fullShare X
    ∗ owns (c : Thread nD τ) (Memref.whole cc0_stg0_0 : Memref sig .tc .vmem S1024x768 .bf16) fullShare (blks m c).x
    ∗ owns (c : Thread nD τ) (Memref.whole cc0_stg1_0 : Memref sig .tc .vmem S768x512 .bf16) fullShare (blks m c).wq
    ∗ owns (c : Thread nD τ) (Memref.whole cc0_stg2_0 : Memref sig .tc .vmem S2x512x8x64 .bf16) fullShare (blks m c).k
    ∗ owns (c : Thread nD τ) (Memref.whole cc0_stg4_0 : Memref sig .tc .vmem S512x768 .bf16) fullShare (blks m c).wo ∗ R)) ?_ ?_ _ rfl h
  · unfold SComp Args; iintro ⟨HX, ⟨H0, H1, H2, H3, H4⟩, HR⟩
    isplitl [H3]; · iexact H3
    isplitl [HX]; · iexact HX
    isplitl [H0]; · iexact H0
    isplitl [H1]; · iexact H1
    isplitl [H2]; · iexact H2
    isplitl [H4] <;> iassumption
  · unfold SComp Args; iintro ⟨H3, HX, H0, H1, H2, H4, HR⟩
    isplitl [HX]; · iexact HX
    isplitr [HR]
    · isplitl [H0]; · iexact H0
      isplitl [H1]; · iexact H1
      isplitl [H2]; · iexact H2
      isplitl [H3] <;> iassumption
    iexact HR

theorem load_wo {c : Dev nD} {X : S1024x768.Idx → Elt F .bf16} {R : sProp 𝕄} {α : Type} {Q : α → sProp 𝕄}
    {r : Rect S512x768} {hl} {k : (r.shape.Idx → Elt F .bf16) → Prog (TpuEff nD τ sig (Elt F) Λ₀ .tc) α}
    (h : SComp m c X R ⊢ WP c (k fun j => (blks m c).wo (r.emb j)) Q) :
    SComp m c X R ⊢ WP c (.op (.load (Memref.whole cc0_stg4_0 : Memref sig .tc .vmem S512x768 .bf16) r.toLoadRect hl) k) Q := by
  refine load_step (q := fullShare) (X := (blks m c).wo) (S' := iprop(owns (c : Thread nD τ) partM fullShare X
    ∗ owns (c : Thread nD τ) (Memref.whole cc0_stg0_0 : Memref sig .tc .vmem S1024x768 .bf16) fullShare (blks m c).x
    ∗ owns (c : Thread nD τ) (Memref.whole cc0_stg1_0 : Memref sig .tc .vmem S768x512 .bf16) fullShare (blks m c).wq
    ∗ owns (c : Thread nD τ) (Memref.whole cc0_stg2_0 : Memref sig .tc .vmem S2x512x8x64 .bf16) fullShare (blks m c).k
    ∗ owns (c : Thread nD τ) (Memref.whole cc0_stg3_0 : Memref sig .tc .vmem S2x512x8x64 .bf16) fullShare (blks m c).v ∗ R)) ?_ ?_ _ rfl h
  · unfold SComp Args; iintro ⟨HX, ⟨H0, H1, H2, H3, H4⟩, HR⟩
    isplitl [H4]; · iexact H4
    isplitl [HX]; · iexact HX
    isplitl [H0]; · iexact H0
    isplitl [H1]; · iexact H1
    isplitl [H2]; · iexact H2
    isplitl [H3] <;> iassumption
  · unfold SComp Args; iintro ⟨H4, HX, H0, H1, H2, H3, HR⟩
    isplitl [HX]; · iexact HX
    isplitr [HR]
    · isplitl [H0]; · iexact H0
      isplitl [H1]; · iexact H1
      isplitl [H2]; · iexact H2
      isplitl [H3] <;> iassumption
    iexact HR

/-- A load of the partial output's buffer. -/
theorem load_part {c : Dev nD} {X : S1024x768.Idx → Elt F .bf16} {R : sProp 𝕄} {α : Type} {Q : α → sProp 𝕄}
    {r : Rect S1024x768} {hl} {k : (r.shape.Idx → Elt F .bf16) → Prog (TpuEff nD τ sig (Elt F) Λ₀ .tc) α}
    (h : SComp m c X R ⊢ WP c (k fun j => X (r.emb j)) Q) : SComp m c X R ⊢ WP c (.op (.load partM r.toLoadRect hl) k) Q :=
  load_step (q := fullShare) (X := X) (S' := iprop(Args m c ∗ R)) .rfl .rfl _ rfl h

/-- The partial output's buffer with the first batch's rows in it, over `X`. -/
def lower (B : Blocks F) (X : S1024x768.Idx → Elt F .bf16) : S1024x768.Idx → Elt F .bf16 :=
  fun i => if (i 0).val < 512 then part B i else X i

/-- The store of the first batch's rows. -/
theorem store_first {c : Dev nD} {X : S1024x768.Idx → Elt F .bf16} {R : sProp 𝕄} {α : Type} {Q : α → sProp 𝕄}
    {w hx hm} {k : PUnit → Prog (TpuEff nD τ sig (Elt F) Λ₀ .tc) α}
    (hw : w = shapeCast S512x768 (batch (blks m c) 0) shapeCasts_S512x768_S512x768)
    (h : SComp m c (lower (blks m c) X) R ⊢ WP c (k ⟨⟩) Q) :
    SComp m c X R ⊢ WP c (.op (.store partM (Rect.unit (s := S1024x768) ![0, 0] S512x768.size inb_S1024x768_S512x768_0_0) w Finset.univ hx hm) k) Q := by
  subst hw
  refine store_step X (lower (blks m c) X) (S' := iprop(Args m c ∗ R)) (fun j => ?_) (fun i hi => ?_) h
  · have h0 : (j 0).val < 512 := (j 0).isLt
    rw [shapeCast_self]
    have e : ((Rect.unit (s := S1024x768) ![0, 0] S512x768.size inb_S1024x768_S512x768_0_0).emb j 0).val < 512 := by
      show 0 + 1 * (j 0).val < 512; omega
    refine (if_pos e).trans ((dif_pos e).trans (congrArg (batch (blks m c) 0) ?_))
    funext a
    match a with
    | 0 => exact Fin.ext (show 0 + 1 * (j 0).val = (j 0).val by omega)
    | 1 => exact Fin.ext (show 0 + 1 * (j 1).val = (j 1).val by omega)
  · unfold lower; rw [if_neg]
    intro h'; refine hi (Finset.mem_map.mpr ⟨ix2 ⟨(i 0).val, h'⟩ (i 1), Finset.mem_univ _, ?_⟩)
    funext a
    match a with
    | 0 => exact Fin.ext (show 0 + 1 * (i 0).val = (i 0).val by omega)
    | 1 => exact Fin.ext (show 0 + 1 * (i 1).val = (i 1).val by omega)

/-- The store of the second batch's. -/
theorem store_second {c : Dev nD} {X : S1024x768.Idx → Elt F .bf16} {R : sProp 𝕄} {α : Type} {Q : α → sProp 𝕄}
    {w hx hm} {k : PUnit → Prog (TpuEff nD τ sig (Elt F) Λ₀ .tc) α}
    (hw : w = shapeCast S512x768 (batch (blks m c) 1) shapeCasts_S512x768_S512x768)
    (h : SComp m c (part (blks m c)) R ⊢ WP c (k ⟨⟩) Q) :
    SComp m c (lower (blks m c) X) R ⊢ WP c (.op (.store partM (Rect.unit (s := S1024x768) ![512, 0] S512x768.size inb_S1024x768_S512x768_512_0) w Finset.univ hx hm) k) Q := by
  subst hw
  refine store_step (lower (blks m c) X) (part (blks m c)) (S' := iprop(Args m c ∗ R)) (fun j => ?_) (fun i hi => ?_) h
  · have h0 : (j 0).val < 512 := (j 0).isLt
    rw [shapeCast_self]
    have e : ¬((Rect.unit (s := S1024x768) ![512, 0] S512x768.size inb_S1024x768_S512x768_512_0).emb j 0).val < 512 := by
      show ¬512 + 1 * (j 0).val < 512; omega
    refine (dif_neg e).trans (congrArg (batch (blks m c) 1) ?_)
    funext a
    match a with
    | 0 => exact Fin.ext (show 512 + 1 * (j 0).val - 512 = (j 0).val by omega)
    | 1 => exact Fin.ext (show 0 + 1 * (j 1).val = (j 1).val by omega)
  · unfold lower; rw [if_pos]
    by_contra h'
    have h0 : (i 0).val < 1024 := (i 0).isLt
    refine hi (Finset.mem_map.mpr ⟨ix2 ⟨(i 0).val - 512, by omega⟩ (i 1), Finset.mem_univ _, ?_⟩)
    funext a
    match a with
    | 0 => exact Fin.ext (show 512 + 1 * ((i 0).val - 512) = (i 0).val by omega)
    | 1 => exact Fin.ext (show 0 + 1 * (i 1).val = (i 1).val by omega)

end Comp

end Cert.KernelIdeal.Attn

end
-- ==== Proof.KernelIdeal.Turns.lean ====
/-
# From phase to phase

The transfers, the received blocks and the device's own rows, and how what one phase leaves is what the next starts from.
-/
module

public import proofs.«01_k».proof.Proof.KernelIdeal.Phases

@[expose] public section

set_option maxRecDepth 16384

noncomputable section

namespace Cert.KernelIdeal.Attn

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable {m : (ℓ : Loc nD τ sig) → Buf (Elt F) ℓ}
variable {K : Dev nD × Option (Fin 4 × J) → ℕ}

/-! ## The two rounds of transfers -/

/-- The state before the transfer of offset `n` of the first phase, -/
def SSend1 (m : (ℓ : Loc nD τ sig) → Buf (Elt F) ℓ) (K : Dev nD × Option (Fin 4 × J) → ℕ) (c : Dev nD) (n : ℕ) (R : sProp 𝕄) : sProp 𝕄 :=
  St m K c (fun n => oDma 3 c 0 + oDma 1 c n)
    (sendPre 0 1 c (fun j => rowsM partM (nxt c j)) slotM (fun _ => fullShare) (fun j => ch m c (nxt c j))) (sendPost 0 c) n R
/-- and of the second. -/
def SSend2 (m : (ℓ : Loc nD τ sig) → Buf (Elt F) ℓ) (K : Dev nD × Option (Fin 4 × J) → ℕ) (c : Dev nD) (n : ℕ) (R : sProp 𝕄) : sProp 𝕄 :=
  St m K c (fun n => 0 + oDma 3 c n)
    (sendPre 2 3 c (fun _ => rowsM outM c) (fun _ => rowsM outM c) (fun j => leaf 5 fullShare j.castSucc) (fun _ => red m c)) (sendPost 2 c) n R

/-- A transfer of the first phase. -/
theorem send1_step {c dst : Dev nD} {n : ℕ} (hn : n < 31) {α : Type} {k : PUnit → Prog (TpuEff nD τ sig (Elt F) Λ₀ .tc) α} {Q : α → sProp 𝕄} {R : sProp 𝕄}
    {s s' : DmaSem sig} {M' : Memref sig .tc .vmem S32x768 .bf16} {off : Fin 2 → ℕ} {hi : ∀ a, off a + S32x768.size a ≤ S1024x768.size a}
    {hr : ∀ a, (Rect.unit (s := S1024x768) off S32x768.size hi).stride a = 1}
    {hsc : (M' : Memref sig (Dev.tc dst : Thread nD τ).2.kind .vmem S32x768 .bf16).view.ref.isScScratch = false}
    {hM : (partM.slice (Rect.unit (s := S1024x768) off S32x768.size hi) hr).view.WordExact}
    {hM' : (M' : Memref sig (Dev.tc dst : Thread nD τ).2.kind .vmem S32x768 .bf16).view.WordExact}
    {hT : DmaTarget.Typed .vmem (.dma s') (.remote (Dev.tc dst : Thread nD τ) (M' : Memref sig (Dev.tc dst : Thread nD τ).2.kind .vmem S32x768 .bf16) (.dma s) hsc)}
    (hd : dst = nxt c ⟨n, hn⟩) (hs : s = dsem 0 ⟨n, hn⟩) (hs' : s' = dsem 1 ⟨n, hn⟩) (ho : off = ![32 * (nxt c ⟨n, hn⟩).val, 0]) (hdst : M' = slotM ⟨n, hn⟩)
    (hN : M'.view.dmaCredit = N) (h : SSend1 m K c (n + 1) R ⊢ WP c (k ⟨⟩) Q) :
    SSend1 m K c n R ⊢ WP c (.op (.enqueueDma (partM.slice (Rect.unit (s := S1024x768) off S32x768.size hi) hr)
      (.remote (Dev.tc dst : Thread nD τ) M' (.dma s) hsc) (.dma s') hM hM' hT) k) Q :=
  send_step hn (oDma 3 c 0) (fun _ => .rfl)
    (fun j => by show _ ⊢ owns (nxt c j : Thread nD τ) (slotM j) fullShare (ch m (prv (nxt c j) j) (nxt c j)); rw [prv_nxt])
    hd hs hs' (rows_eq partM (nxt c ⟨n, hn⟩) ho) hdst hN h

/-- A transfer of the second. -/
theorem send2_step {c dst : Dev nD} {n : ℕ} (hn : n < 31) {α : Type} {k : PUnit → Prog (TpuEff nD τ sig (Elt F) Λ₀ .tc) α} {Q : α → sProp 𝕄} {R : sProp 𝕄}
    {s s' : DmaSem sig} {off off' : Fin 2 → ℕ} {hi : ∀ a, off a + S32x768.size a ≤ S1024x768.size a} {hi' : ∀ a, off' a + S32x768.size a ≤ S1024x768.size a}
    {hr : ∀ a, (Rect.unit (s := S1024x768) off S32x768.size hi).stride a = 1} {hr' : ∀ a, (Rect.unit (s := S1024x768) off' S32x768.size hi').stride a = 1}
    {hsc : (outM.slice (Rect.unit (s := S1024x768) off' S32x768.size hi') hr' : Memref sig (Dev.tc dst : Thread nD τ).2.kind .vmem S32x768 .bf16).view.ref.isScScratch = false}
    {hM : (outM.slice (Rect.unit (s := S1024x768) off S32x768.size hi) hr).view.WordExact}
    {hM' : (outM.slice (Rect.unit (s := S1024x768) off' S32x768.size hi') hr' : Memref sig (Dev.tc dst : Thread nD τ).2.kind .vmem S32x768 .bf16).view.WordExact}
    {hT : DmaTarget.Typed .vmem (.dma s') (.remote (Dev.tc dst : Thread nD τ)
      (outM.slice (Rect.unit (s := S1024x768) off' S32x768.size hi') hr' : Memref sig (Dev.tc dst : Thread nD τ).2.kind .vmem S32x768 .bf16) (.dma s) hsc)}
    (hd : dst = nxt c ⟨n, hn⟩) (hs : s = dsem 2 ⟨n, hn⟩) (hs' : s' = dsem 3 ⟨n, hn⟩) (ho : off = ![32 * c.val, 0]) (ho' : off' = ![32 * c.val, 0])
    (hN : (outM.slice (Rect.unit (s := S1024x768) off' S32x768.size hi') hr').view.dmaCredit = N) (h : SSend2 m K c (n + 1) R ⊢ WP c (k ⟨⟩) Q) :
    SSend2 m K c n R ⊢ WP c (.op (.enqueueDma (outM.slice (Rect.unit (s := S1024x768) off S32x768.size hi) hr)
      (.remote (Dev.tc dst : Thread nD τ) (outM.slice (Rect.unit (s := S1024x768) off' S32x768.size hi') hr') (.dma s) hsc) (.dma s') hM hM' hT) k) Q :=
  send_step hn 0 (fun _ => .rfl)
    (fun j => by
      show _ ⊢ owns (nxt c j : Thread nD τ) (rowsM outM (prv (nxt c j) j)) fullShare (red m (prv (nxt c j) j)); rw [prv_nxt])
    hd hs hs' (rows_eq outM c ho) (rows_eq outM c ho') hN h

/-! ## The device's own rows, and the received blocks -/

/-- A load of rows that are owned. -/
theorem load_rows {c d : Dev nD} {M : Memref sig .tc .vmem S1024x768 .bf16} {q : PosShare TreeShare} {X : S32x768.Idx → Elt F .bf16} {α : Type}
    {Q : α → sProp 𝕄} {S : sProp 𝕄} {off : Fin 2 → ℕ} {hi : ∀ a, off a + S32x768.size a ≤ S1024x768.size a} {hl}
    {k : (S32x768.Idx → Elt F .bf16) → Prog (TpuEff nD τ sig (Elt F) Λ₀ .tc) α}
    (S' : sProp 𝕄) (hS : S ⊢ iprop(owns (c : Thread nD τ) (rowsM M d) q X ∗ S')) (hS' : iprop(owns (c : Thread nD τ) (rowsM M d) q X ∗ S') ⊢ S)
    (ho : off = ![32 * d.val, 0]) (h : S ⊢ WP c (k X) Q) :
    S ⊢ WP c (.op (.load M (Rect.unit (s := S1024x768) off S32x768.size hi).toLoadRect hl) k) Q := by
  subst ho
  exact load_slice_step (hr := fun _ => rfl) hS hS' h

/-- A store of rows that are owned. -/
theorem store_rows {c d : Dev nD} {M : Memref sig .tc .vmem S1024x768 .bf16} {X w : S32x768.Idx → Elt F .bf16} {α : Type}
    {Q : α → sProp 𝕄} {S' : sProp 𝕄} {off : Fin 2 → ℕ} {hi : ∀ a, off a + S32x768.size a ≤ S1024x768.size a} {hx hm}
    {k : PUnit → Prog (TpuEff nD τ sig (Elt F) Λ₀ .tc) α}
    (ho : off = ![32 * d.val, 0]) (h : iprop(owns (c : Thread nD τ) (rowsM M d) fullShare w ∗ S') ⊢ WP c (k ⟨⟩) Q) :
    iprop(owns (c : Thread nD τ) (rowsM M d) fullShare X ∗ S')
      ⊢ WP c (.op (.store M (Rect.unit (s := S1024x768) off S32x768.size hi) w Finset.univ hx hm) k) Q := by
  subst ho
  exact store_slice_step (hr := fun _ => rfl) h

theorem got_eq (c : Dev nD) (n : ℕ) (hn : n < 31) : got m c n = lift (ch m (prv c ⟨n, hn⟩) c) := by
  unfold got; congr 3; exact Fin.ext (Nat.mod_eq_of_lt hn)

theorem waitPost_one (c : Dev nD) (j : J) : waitPost m 1 c j = iprop(owns (c : Thread nD τ) (slotM j) fullShare (ch m (prv c j) c) ∗ semVal (dC 1 c j) 0) := rfl

/-- A load of the block just received. -/
theorem load_got {c : Dev nD} {n : ℕ} (hn : n < 31) {O : CellTallies nD τ sig Unit} {R : sProp 𝕄} {α : Type} {Q : α → sProp 𝕄}
    {off : Fin 3 → ℕ} {hi : ∀ a, off a + S1x32x768.size a ≤ S32x32x768.size a} {hl}
    {k : (S1x32x768.Idx → Elt F .bf16) → Prog (TpuEff nD τ sig (Elt F) Λ₀ .tc) α} (ho : off = ![n + 1, 0, 0])
    (h : SWait m K 1 O c (n + 1) R ⊢ WP c (k (got m c n)) Q) :
    SWait m K 1 O c (n + 1) R ⊢ WP c (.op (.load rsM (Rect.unit (s := S32x32x768) off S1x32x768.size hi).toLoadRect hl) k) Q := by
  subst ho
  rw [got_eq c n hn] at h
  refine load_slice_step (M := rsM) (r := Rect.unit (s := S32x32x768) ![n + 1, 0, 0] S1x32x768.size hi) (hr := fun _ => rfl) (q := fullShare)
    (S' := iprop(semVal (dC 1 c ⟨n, hn⟩) 0 ∗ (waitPost m 1 c ⟨n, hn⟩ -∗ SWait m K 1 O c (n + 1) R))) ?_ ?_ h
  · refine (done_out hn).trans ?_
    rw [waitPost_one]
    iintro ⟨⟨H, Hz⟩, HK⟩
    isplitl [H]; · iapply (owns_slot c ⟨n, hn⟩ fullShare (ch m (prv c ⟨n, hn⟩) c)); iexact H
    isplitl [Hz]; · iexact Hz
    iexact HK
  · rw [waitPost_one]
    iintro ⟨H, Hz, HK⟩
    iapply HK
    isplitl [H]; · iapply (slot_owns c ⟨n, hn⟩ fullShare (ch m (prv c ⟨n, hn⟩) c)); iexact H
    iexact Hz

/-! ## What a device starts with and ends with -/

theorem sep_all {I : Type} [Fintype I] (Φ Ψ : I → sProp 𝕄) :
    bigSep Finset.univ (fun i => iprop(Φ i ∗ Ψ i)) = iprop(bigSep Finset.univ Φ ∗ bigSep Finset.univ Ψ) := bigSep_sep' _ _ _

/-- Contents that exist may be named. -/
theorem named {I : Type} {Φ : I → sProp 𝕄} {P : sProp 𝕄} (h : ∀ X, Φ X ⊢ P) : iprop(∃ X, Φ X) ⊢ P := by
  iintro ⟨%X, H⟩
  iapply (h X)
  iexact H

/-- The tokens of the device's 31 signals. -/
def tokSig (c : Dev nD) : sProp 𝕄 := bigSep Finset.univ fun j : J => dutyTok ER (barC (nxt c j)) 0 (rev j)
/-- The tokens of its 31 transfers of one phase, on the cells of kinds `a` and `a'`. -/
def tok (a a' : Fin 4) (c : Dev nD) : sProp 𝕄 :=
  bigSep Finset.univ fun j : J => iprop(dutyTok ER (dC a c j) 0 0 ∗ dutyTok ER (dC a' (nxt c j) j) 0 0)
/-- What its 31 waits of kind `a` take. -/
def waits (a : Fin 4) (c : Dev nD) : sProp 𝕄 := bigSep Finset.univ (waitPre (F := F) a c)
/-- The positions of its cells of kind `a`. -/
def poss (a : Fin 4) (c : Dev nD) : sProp 𝕄 := bigSep Finset.univ fun j : J => atPos ER (dC a c j) 0 ∅ 0
/-- What its barrier wait takes. -/
def barPre (c : Dev nD) : sProp 𝕄 := iprop(cred (tallyAt (barC c) () 31) ∗ atPos ER (barC c) 0 ∅ 0)

/-- A device's resources before its body, -/
def Entry (m : (ℓ : Loc nD τ sig) → Buf (Elt F) ℓ) (K : Dev nD × Option (Fin 4 × J) → ℕ) (c : Dev nD) : sProp 𝕄 :=
  iprop(records m K ∗ owesE c (oSig c 0) ∗ barPre c ∗ tokSig c ∗ (tok 0 1 c ∗ tok 2 3 c ∗ waits 1 c ∗ waits 3 c ∗ poss 0 c ∗ poss 2 c)
    ∗ ownsE c rsM ∗ ownsE c partM ∗ ownsE c outM ∗ Args m c)
/-- and after it. -/
def Exit (m : (ℓ : Loc nD τ sig) → Buf (Elt F) ℓ) (c : Dev nD) : sProp 𝕄 :=
  iprop(owesE c 0 ∗ Args m c ∗ owns (c : Thread nD τ) outM fullShare (full m) ∗ ownsE c partM ∗ ownsE c rsM ∗ semVal (barC c) 0
    ∗ bigSep Finset.univ fun j : J => iprop(semVal (dC 0 c j) 0 ∗ semVal (dC 1 c j) 0 ∗ semVal (dC 2 c j) 0 ∗ semVal (dC 3 c j) 0))

/-! ## From phase to phase -/

/-- What the signals and the barrier wait leave alone, -/
def R1 (m : (ℓ : Loc nD τ sig) → Buf (Elt F) ℓ) (c : Dev nD) : sProp 𝕄 :=
  iprop(Args m c ∗ ownsE c partM ∗ ownsE c (slot3 0) ∗ ownsE c (rowsM outM c)
    ∗ (tok 0 1 c ∗ tok 2 3 c ∗ waits 1 c ∗ waits 3 c ∗ poss 0 c ∗ poss 2 c))
/-- the computation, -/
def R2 (m : (ℓ : Loc nD τ sig) → Buf (Elt F) ℓ) (K : Dev nD × Option (Fin 4 × J) → ℕ) (c : Dev nD) : sProp 𝕄 :=
  iprop(records m K ∗ owesE c (oDma 3 c 0 + oDma 1 c 0) ∗ (bigSep Finset.univ fun j : J => barPay c j) ∗ semVal (barC c) 0
    ∗ ownsE c (slot3 0) ∗ ownsE c (rowsM outM c) ∗ (tok 0 1 c ∗ tok 2 3 c ∗ waits 1 c ∗ waits 3 c ∗ poss 0 c ∗ poss 2 c))
/-- the first transfers, -/
def R3 (m : (ℓ : Loc nD τ sig) → Buf (Elt F) ℓ) (c : Dev nD) : sProp 𝕄 :=
  iprop(owns (c : Thread nD τ) (rowsM partM c) fullShare (ch m c c) ∗ (bigSep Finset.univ fun j : J => ownsE (nxt c j) (rowsM outM c))
    ∗ Args m c ∗ semVal (barC c) 0 ∗ ownsE c (slot3 0) ∗ ownsE c (rowsM outM c) ∗ tok 2 3 c ∗ waits 1 c ∗ waits 3 c ∗ poss 0 c ∗ poss 2 c)
/-- the received blocks, -/
def R5 (m : (ℓ : Loc nD τ sig) → Buf (Elt F) ℓ) (c : Dev nD) : sProp 𝕄 :=
  iprop((bigSep Finset.univ (sendPost (F := F) 0 c)) ∗ (bigSep Finset.univ fun j : J => ownsE (nxt c j) (rowsM outM c))
    ∗ Args m c ∗ semVal (barC c) 0 ∗ ownsE c (slot3 0) ∗ ownsE c (rowsM outM c) ∗ tok 2 3 c ∗ waits 3 c ∗ poss 0 c ∗ poss 2 c)
/-- the store of the reduced rows, -/
def R6 (m : (ℓ : Loc nD τ sig) → Buf (Elt F) ℓ) (K : Dev nD × Option (Fin 4 × J) → ℕ) (c : Dev nD) : sProp 𝕄 :=
  iprop(records m K ∗ owesE c (oDma 3 c 0) ∗ (bigSep Finset.univ fun j => waitPost m 1 c j) ∗ owns (c : Thread nD τ) (rowsM partM c) fullShare (ch m c c)
    ∗ (bigSep Finset.univ (sendPost (F := F) 0 c)) ∗ (bigSep Finset.univ fun j : J => ownsE (nxt c j) (rowsM outM c))
    ∗ Args m c ∗ semVal (barC c) 0 ∗ ownsE c (slot3 0) ∗ tok 2 3 c ∗ waits 3 c ∗ poss 0 c ∗ poss 2 c)
/-- the second transfers, -/
def R7 (m : (ℓ : Loc nD τ sig) → Buf (Elt F) ℓ) (c : Dev nD) : sProp 𝕄 :=
  iprop(owns (c : Thread nD τ) (rowsM outM c) (leaf 5 fullShare (Fin.last 31)) (red m c) ∗ (bigSep Finset.univ fun j => waitPost m 1 c j)
    ∗ owns (c : Thread nD τ) (rowsM partM c) fullShare (ch m c c) ∗ (bigSep Finset.univ (sendPost (F := F) 0 c))
    ∗ Args m c ∗ semVal (barC c) 0 ∗ ownsE c (slot3 0) ∗ waits 3 c ∗ poss 0 c ∗ poss 2 c)
/-- and the last three rounds of waits. -/
def R8 (m : (ℓ : Loc nD τ sig) → Buf (Elt F) ℓ) (c : Dev nD) : sProp 𝕄 :=
  iprop((bigSep Finset.univ (sendPost (F := F) 2 c)) ∗ poss 2 c ∗ owns (c : Thread nD τ) (rowsM outM c) (leaf 5 fullShare (Fin.last 31)) (red m c)
    ∗ (bigSep Finset.univ fun j => waitPost m 1 c j) ∗ owns (c : Thread nD τ) (rowsM partM c) fullShare (ch m c c)
    ∗ Args m c ∗ semVal (barC c) 0 ∗ ownsE c (slot3 0))

theorem turn_start (c : Dev nD) : Entry m K c ⊢ SSig m K c 0 iprop(barPre c ∗ R1 m c) := by
  refine BIBase.Entails.trans ?_ St_start
  unfold Entry R1 tokSig sigPre
  rw [sep_all, sep_all]
  iintro ⟨H1, H2, H3, H4, H5, H6, H7, H8, H9⟩
  ihave Hs := (slots_splitE c) $$ H6
  icases Hs with ⟨Hs0, Hs⟩
  ihave Hr := ((rows_splitE c outM).trans (Entails.of_eq (devs_nxt c fun d => ownsE (F := F) c (rowsM outM d)))) $$ H8
  icases Hr with ⟨Hr0, Hr⟩
  ihave Hs' := (Entails.of_eq (univ_prv fun j => ownsE (F := F) c (slotM j)).symm) $$ Hs
  isplitl [H1]; · iexact H1
  isplitl [H2]; · iexact H2
  isplitl [H4 Hs' Hr]
  · isplitl [H4]; · iexact H4
    isplitl [Hs'] <;> iassumption
  isplitl [H3]; · iexact H3
  isplitl [H9]; · iexact H9
  isplitl [H7]; · iexact H7
  isplitl [Hs0]; · iexact Hs0
  isplitl [Hr0] <;> iassumption

theorem turn_bar (c : Dev nD) : SSig m K c 31 iprop(barPre c ∗ R1 m c)
    ⊢ iprop(records m K ∗ owesE c (oDma 3 c 0 + oDma 1 c 0) ∗ (cred (tallyAt (barC c) () 31) ∗ atPos ER (barC c) 0 ∅ 0) ∗ R1 m c) := by
  refine St_finish.trans ?_
  rw [show oSig c 31 = oDma 3 c 0 + oDma 1 c 0 by unfold oSig; rw [oBar_end, add_zero]]
  unfold barPre
  iintro ⟨H1, H2, -, H3, H4⟩
  isplitl [H1]; · iexact H1
  isplitl [H2]; · iexact H2
  isplitl [H3] <;> iassumption

theorem turn_comp (c : Dev nD) : iprop(records m K ∗ owesE c (oDma 3 c 0 + oDma 1 c 0) ∗ (bigSep Finset.univ fun j : J => barPay c j) ∗ semVal (barC c) 0 ∗ R1 m c)
    ⊢ iprop(∃ X, SComp m c X (R2 m K c)) := by
  unfold R1 R2 SComp
  rw [show (ownsE c partM : sProp 𝕄) = iprop(∃ X, owns (c : Thread nD τ) partM fullShare X) from rfl]
  iintro ⟨H1, H2, H3, H4, H5, ⟨%X, H6⟩, H7, H8, H9⟩
  iexists X
  isplitl [H6]; · iexact H6
  isplitl [H5]; · iexact H5
  isplitl [H1]; · iexact H1
  isplitl [H2]; · iexact H2
  isplitl [H3]; · iexact H3
  isplitl [H4]; · iexact H4
  isplitl [H7]; · iexact H7
  isplitl [H8] <;> iassumption

theorem turn_send1 (c : Dev nD) : SComp m c (part (blks m c)) (R2 m K c) ⊢ SSend1 m K c 0 (R3 m c) := by
  refine BIBase.Entails.trans ?_ St_start
  unfold SComp R2 R3 sendPre barPay tok
  simp only [sep_all]
  iintro ⟨H0, H1, H2, H3, ⟨H4, H4'⟩, H5, H6, H7, ⟨H8, H9, H10⟩⟩
  ihave Hr := ((rows_split c partM fullShare (part (blks m c))).trans
    (Entails.of_eq (devs_nxt c fun d => owns (c : Thread nD τ) (rowsM partM d) fullShare (ch m c d)))) $$ H0
  icases Hr with ⟨Hr0, Hr⟩
  isplitl [H2]; · iexact H2
  isplitl [H3]; · iexact H3
  isplitl [H8 Hr H4]
  · isplitl [H8]; · iexact H8
    isplitl [Hr] <;> iassumption
  isplitl [Hr0]; · iexact Hr0
  isplitl [H4']; · iexact H4'
  isplitl [H1]; · iexact H1
  isplitl [H5]; · iexact H5
  isplitl [H6]; · iexact H6
  isplitl [H7]; · iexact H7
  isplitl [H9] <;> iassumption

theorem turn_recv1 (c : Dev nD) : SSend1 m K c 31 (R3 m c)
    ⊢ SWait m K 1 (oDma 3 c 0) c 0 iprop(owns (c : Thread nD τ) (rowsM partM c) fullShare (ch m c c) ∗ R5 m c) := by
  refine St_finish.trans (BIBase.Entails.trans ?_ St_start)
  rw [show oDma 3 c 0 + oDma 1 c 31 = oDma 3 c 0 by rw [oDma_end, add_zero]]
  unfold R3 R5 waits
  iintro ⟨H1, H2, H3, H4, H5, H6, H7, H8, H9, H10, H11, H12⟩
  isplitl [H1]; · iexact H1
  isplitl [H2]; · iexact H2
  isplitl [H11]; · iexact H11
  isplitl [H4]; · iexact H4
  isplitl [H3]; · iexact H3
  isplitl [H5]; · iexact H5
  isplitl [H6]; · iexact H6
  isplitl [H7]; · iexact H7
  isplitl [H8]; · iexact H8
  isplitl [H9]; · iexact H9
  isplitl [H10] <;> iassumption

theorem turn_store (c : Dev nD) : SWait m K 1 (oDma 3 c 0) c 31 iprop(owns (c : Thread nD τ) (rowsM partM c) fullShare (ch m c c) ∗ R5 m c)
    ⊢ iprop(∃ X, owns (c : Thread nD τ) (rowsM outM c) fullShare X ∗ R6 m K c) := by
  refine St_finish.trans ?_
  unfold R5 R6
  rw [show (ownsE c (rowsM outM c) : sProp 𝕄) = iprop(∃ X, owns (c : Thread nD τ) (rowsM outM c) fullShare X) from rfl]
  iintro ⟨H1, H2, H3, H4, H5, H6, H7, H8, H9, ⟨%X, H10⟩, H11⟩
  iexists X
  isplitl [H10]; · iexact H10
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

theorem turn_send2 (c : Dev nD) : iprop(owns (c : Thread nD τ) (rowsM outM c) fullShare (red m c) ∗ R6 m K c) ⊢ SSend2 m K c 0 (R7 m c) := by
  refine BIBase.Entails.trans ?_ St_start
  unfold R6 R7 sendPre tok
  simp only [sep_all, zero_add, rows_leaves]
  iintro ⟨⟨H0, H0'⟩, H1, H2, H3, H4, H5, H6, H7, H8, H9, H10, H11⟩
  isplitl [H1]; · iexact H1
  isplitl [H2]; · iexact H2
  isplitl [H10 H0' H6]
  · isplitl [H10]; · iexact H10
    isplitl [H0'] <;> iassumption
  isplitl [H0]; · iexact H0
  isplitl [H3]; · iexact H3
  isplitl [H4]; · iexact H4
  isplitl [H5]; · iexact H5
  isplitl [H7]; · iexact H7
  isplitl [H8]; · iexact H8
  isplitl [H9] <;> iassumption

theorem turn_recv2 (c : Dev nD) : SSend2 m K c 31 (R7 m c)
    ⊢ SWait m K 3 0 c 0 iprop(((bigSep Finset.univ (sendPost (F := F) 0 c)) ∗ poss 0 c) ∗ R8 m c) := by
  refine St_finish.trans (BIBase.Entails.trans ?_ St_start)
  rw [show 0 + oDma 3 c 31 = 0 by rw [oDma_end, add_zero]]
  unfold R7 R8 waits
  iintro ⟨H1, H2, H3, H4, H5, H6, H7, H8, H9, H10, H11, H12, H13⟩
  isplitl [H1]; · iexact H1
  isplitl [H2]; · iexact H2
  isplitl [H11]; · iexact H11
  isplitl [H7 H12]
  · isplitl [H7] <;> iassumption
  isplitl [H3]; · iexact H3
  isplitl [H13]; · iexact H13
  isplitl [H4]; · iexact H4
  isplitl [H5]; · iexact H5
  isplitl [H6]; · iexact H6
  isplitl [H8]; · iexact H8
  isplitl [H9] <;> iassumption

theorem waits_of (a : Fin 4) (c : Dev nD) : iprop((bigSep Finset.univ (sendPost (F := F) a c)) ∗ poss a c) ⊢ bigSep Finset.univ (waitPre (F := F) a c) := by
  unfold poss sendPost waitPre; rw [sep_all]

theorem turn_sent1 (c : Dev nD) : SWait m K 3 0 c 31 iprop(((bigSep Finset.univ (sendPost (F := F) 0 c)) ∗ poss 0 c) ∗ R8 m c)
    ⊢ SWait m K 0 0 c 0 iprop((bigSep Finset.univ fun j => waitPost m 3 c j) ∗ R8 m c) := by
  refine St_finish.trans (BIBase.Entails.trans ?_ St_start)
  iintro ⟨H1, H2, H3, H4, H5⟩
  isplitl [H1]; · iexact H1
  isplitl [H2]; · iexact H2
  isplitl [H4]; · iapply (waits_of 0 c); iexact H4
  isplitl [H3] <;> iassumption

/-- What is left once the last transfers are sent. -/
def R9 (m : (ℓ : Loc nD τ sig) → Buf (Elt F) ℓ) (c : Dev nD) : sProp 𝕄 :=
  iprop(owns (c : Thread nD τ) (rowsM outM c) (leaf 5 fullShare (Fin.last 31)) (red m c)
    ∗ (bigSep Finset.univ fun j => waitPost m 1 c j) ∗ owns (c : Thread nD τ) (rowsM partM c) fullShare (ch m c c)
    ∗ Args m c ∗ semVal (barC c) 0 ∗ ownsE c (slot3 0))

theorem turn_sent2 (c : Dev nD) : SWait m K 0 0 c 31 iprop((bigSep Finset.univ fun j => waitPost m 3 c j) ∗ R8 m c)
    ⊢ SWait m K 2 0 c 0 iprop((bigSep Finset.univ fun j => waitPost m 0 c j) ∗ (bigSep Finset.univ fun j => waitPost m 3 c j) ∗ R9 m c) := by
  refine St_finish.trans (BIBase.Entails.trans ?_ St_start)
  unfold R8 R9
  iintro ⟨H1, H2, H3, H4, H5, H6, H7⟩
  isplitl [H1]; · iexact H1
  isplitl [H2]; · iexact H2
  isplitl [H5 H6]
  · iapply (waits_of 2 c)
    isplitl [H5] <;> iassumption
  isplitl [H3]; · iexact H3
  isplitl [H4] <;> iassumption

theorem waitPost_all (a : Fin 4) (c : Dev nD) : (bigSep Finset.univ fun j => waitPost m a c j)
    = iprop((bigSep Finset.univ fun j => dmaPay m c (a, j)) ∗ bigSep Finset.univ fun j : J => semVal (dC a c j) 0) := by
  unfold waitPost; rw [sep_all]

/-- The payments of the four kinds of cells. -/
theorem pays (c : Dev nD) :
    ((fun j : J => dmaPay m c (0, j)) = fun j => owns (c : Thread nD τ) (rowsM partM (nxt c j)) fullShare (ch m c (nxt c j)))
    ∧ ((fun j : J => dmaPay m c (1, j)) = fun j => owns (c : Thread nD τ) (slotM j) fullShare (ch m (prv c j) c))
    ∧ ((fun j : J => dmaPay m c (2, j)) = fun j => owns (c : Thread nD τ) (rowsM outM c) (leaf 5 fullShare j.castSucc) (red m c))
    ∧ ((fun j : J => dmaPay m c (3, j)) = fun j => owns (c : Thread nD τ) (rowsM outM (prv c j)) fullShare (red m (prv c j))) :=
  ⟨rfl, rfl, rfl, rfl⟩

theorem turn_end (c : Dev nD) : SWait m K 2 0 c 31 iprop((bigSep Finset.univ fun j => waitPost m 0 c j) ∗ (bigSep Finset.univ fun j => waitPost m 3 c j) ∗ R9 m c)
    ⊢ Exit m c := by
  refine St_finish.trans ?_
  unfold R9 Exit
  rw [waitPost_all, waitPost_all, waitPost_all, waitPost_all, sep_all, sep_all, sep_all, (pays c).1, (pays c).2.1, (pays c).2.2.1, (pays c).2.2.2]
  iintro ⟨-, H1, ⟨P2, Z2⟩, ⟨P0, Z0⟩, ⟨P3, Z3⟩, H2, ⟨P1, Z1⟩, H3, H4, H5, H6⟩
  isplitl [H1]; · iexact H1
  isplitl [H4]; · iexact H4
  isplitl [H2 P2 P3]
  · iapply (full_join c)
    iapply (Entails.of_eq (devs_prv c fun d => owns (c : Thread nD τ) (rowsM outM d) fullShare (red m d)).symm)
    isplitl [H2 P2]
    · iapply (Entails.of_eq (rows_leaves c (red m c)).symm)
      isplitl [H2] <;> iassumption
    · iexact P3
  isplitl [H3 P0]
  · iapply (rows_joinE c partM)
    iapply (Entails.of_eq (devs_nxt c fun d => ownsE (F := F) c (rowsM partM d)).symm)
    isplitl [H3]
    · unfold ownsE; iexists _; iexact H3
    · iapply (all_mono fun (j : J) => (show owns (c : Thread nD τ) (rowsM partM (nxt c j)) fullShare (ch m c (nxt c j)) ⊢ (ownsE c (rowsM partM (nxt c j)) : sProp 𝕄) by
        unfold ownsE; iintro H; iexists (ch m c (nxt c j)); iexact H)) $$ P0
  isplitl [H6 P1]
  · iapply (slots_joinE c)
    isplitl [H6]; · iexact H6
    iapply (all_mono fun (j : J) => (show owns (c : Thread nD τ) (slotM j) fullShare (ch m (prv c j) c) ⊢ (ownsE c (slotM j) : sProp 𝕄) by
        unfold ownsE; iintro H; iexists (ch m (prv c j) c); iexact H)) $$ P1
  isplitl [H5]; · iexact H5
  isplitl [Z0]; · iexact Z0
  isplitl [Z1]; · iexact Z1
  isplitl [Z2] <;> iassumption

end Cert.KernelIdeal.Attn

end
-- ==== Proof.KernelIdeal.First.lean ====
/-
# The first half of the kernel's body

One device's body at a symbolic device, from the signals to the first transfers of the second phase.
-/
module

public import proofs.«01_k».proof.Proof.KernelIdeal.Turns

@[expose] public section

set_option maxRecDepth 16384

noncomputable section

namespace Cert.KernelIdeal.Attn

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable {m : (ℓ : Loc nD τ sig) → Buf (Elt F) ℓ}
variable {K : Dev nD × Option (Fin 4 × J) → ℕ}

attribute [local irreducible] WP

set_option maxHeartbeats 0 in
/-- The body up to the seventh transfer of the second phase. -/
theorem first_half (c : Dev nD) (Q) (h : ∀ w, w.1 = c → SSend2 m K c 7 (R7 m c) ⊢ Q w) : Entry m K c ⊢ WP c (k0_part106 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5) Q := by
  refine (turn_start c).trans ?_
  rw [k0_part106_eq_skeleton]; unfold k0_part106_skel
  refine part_step (p' := ?_) ?_ ?_
  on_goal 2 => simp only [k0_part1_eq_skeleton, k0_part1_skel, semSignalWord, semWaitWord, Prog.lift, Prog.bind_op, Prog.bind_ret, Prog.pure_eq_ret]; exact rfl
  refine dev_step ?_
  beta_reduce
  repeat
    refine sig_step ?_ rfl rfl ?_ ?_
    · decide
    · clear * -
      revert c; decide +kernel
  try (refine ret_step ?_; try dsimp only)
  iterate 12
    refine part_step (p' := ?_) ?_ ?_
    on_goal 2 => simp only [k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, semSignalWord, semWaitWord, Prog.lift, Prog.bind_op, Prog.bind_ret, Prog.pure_eq_ret]; exact rfl
    repeat
      refine sig_step ?_ rfl rfl ?_ ?_
      · decide
      · clear * -
        revert c; decide +kernel
    try (refine ret_step ?_; try dsimp only)
  refine (turn_bar c).trans ?_
  refine bar_step rfl rfl ?_
  refine (turn_comp c).trans ?_
  refine named fun X => ?_
  refine ret_step ?_; try dsimp only
  iterate 9
    refine part_step (p' := ?_) ?_ ?_
    on_goal 2 => simp only [k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, semSignalWord, semWaitWord, Prog.lift, Prog.bind_op, Prog.bind_ret, Prog.pure_eq_ret]; exact rfl
    refine ret_step ?_; try dsimp only
  iterate 7
    refine part_step (p' := ?_) ?_ ?_
    on_goal 2 => simp only [k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, semSignalWord, semWaitWord, Prog.lift, Prog.bind_op, Prog.bind_ret, Prog.pure_eq_ret]; exact rfl
    repeat (first | refine load_x ?_ | refine load_wq ?_ | refine load_k ?_ | refine load_v ?_ | refine load_wo ?_ | refine load_part ?_ | refine store_first (store_lo (blks m c)) ?_)
    refine ret_step ?_; try dsimp only
  iterate 6
    refine part_step (p' := ?_) ?_ ?_
    on_goal 2 => simp only [k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, semSignalWord, semWaitWord, Prog.lift, Prog.bind_op, Prog.bind_ret, Prog.pure_eq_ret]; exact rfl
    repeat (first | refine load_k ?_ | refine load_v ?_ | refine load_wo ?_ | refine load_part ?_ | refine store_second (store_hi (blks m c)) ?_)
    try (refine ret_step ?_; try dsimp only)

  refine (turn_send1 c).trans ?_
  repeat
    refine send1_step ?_ ?_ rfl rfl ?_ rfl rfl ?_
    · decide
    · clear * -
      revert c; decide +kernel
    · clear * -
      revert c; decide +kernel
  refine ret_step ?_; try dsimp only
  iterate 9
    refine part_step (p' := ?_) ?_ ?_
    on_goal 2 => simp only [k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, semSignalWord, semWaitWord, Prog.lift, Prog.bind_op, Prog.bind_ret, Prog.pure_eq_ret]; exact rfl
    repeat
      refine send1_step ?_ ?_ rfl rfl ?_ rfl rfl ?_
      · decide
      · clear * -
        revert c; decide +kernel
      · clear * -
        revert c; decide +kernel
    try (refine ret_step ?_; try dsimp only)
  refine (turn_recv1 c).trans ?_
  refine load_rows (d := c) (SWait m K 1 (oDma 3 c 0) c 0 (R5 m c)) St_out St_in ?_ ?_
  · clear * -
    revert c; decide +kernel
  repeat
    first
    | refine wait_step ?_ (mayWait_recv1 c _) rfl rfl ?_
      · decide
    | refine load_got ?_ rfl ?_
      · decide
  refine ret_step ?_; try dsimp only
  iterate 12
    refine part_step (p' := ?_) ?_ ?_
    on_goal 2 => simp only [k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, semSignalWord, semWaitWord, Prog.lift, Prog.bind_op, Prog.bind_ret, Prog.pure_eq_ret]; exact rfl
    repeat
      first
      | refine wait_step ?_ (mayWait_recv1 c _) rfl rfl ?_
        · decide
      | refine load_got ?_ rfl ?_
        · decide
    try (refine ret_step ?_; try dsimp only)
  refine (turn_store c).trans ?_
  refine named fun Y => ?_
  refine load_rows (d := c) _ .rfl .rfl ?_ ?_
  · clear * -
    revert c; decide +kernel
  refine store_rows (d := c) ?_ ?_
  · clear * -
    revert c; decide +kernel
  refine (turn_send2 c).trans ?_
  refine ret_step ?_; try dsimp only
  iterate 4
    refine part_step (p' := ?_) ?_ ?_
    on_goal 2 => simp only [k0_part57_eq_skeleton, k0_part57_skel, k0_part58_eq_skeleton, k0_part58_skel, k0_part59_eq_skeleton, k0_part59_skel, k0_part60_eq_skeleton, k0_part60_skel, semSignalWord, semWaitWord, Prog.lift, Prog.bind_op, Prog.bind_ret, Prog.pure_eq_ret]; exact rfl
    repeat
      refine send2_step ?_ ?_ rfl rfl ?_ ?_ rfl ?_
      · decide
      · clear * -
        revert c; decide +kernel
      · clear * -
        revert c; decide +kernel
      · clear * -
        revert c; decide +kernel
    try (refine ret_step ?_; try dsimp only)
  rw [Prog.pure_eq_ret]
  exact ret_step (h _ rfl)

end Cert.KernelIdeal.Attn

end
-- ==== Proof.KernelIdeal.Second.lean ====
/-
# The second half of the kernel's body

The other transfers of the second phase, the last three rounds of waits, and the body as a whole.
-/
module

public import proofs.«01_k».proof.Proof.KernelIdeal.First

@[expose] public section

set_option maxRecDepth 16384

noncomputable section

namespace Cert.KernelIdeal.Attn

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable {m : (ℓ : Loc nD τ sig) → Buf (Elt F) ℓ}
variable {K : Dev nD × Option (Fin 4 × J) → ℕ}

attribute [local irreducible] WP

/-- A device that owes nothing may wait anywhere. -/
theorem free (c : Dev nD) (a : Fin 4) (j : J) : (levAts L lv : sProp 𝕄) ⊢ MayWait (c : Thread nD τ) (.dma (dsem a j)) () 0 := by
  rw [MayWait_zero]; iintro -; iempintro

set_option maxHeartbeats 0 in
/-- The body's second half: the other transfers of the second phase, and the last three rounds of waits up to the second last two. -/
theorem second_half (c d : Dev nD) (hd : d = c) (v2 v1952 v1953 : BitVec 32) (v1954 v1957 : BitVec 1) (Q)
    (h : SWait m K 2 0 c 29 iprop((bigSep Finset.univ fun j => waitPost m 0 c j) ∗ (bigSep Finset.univ fun j => waitPost m 3 c j) ∗ R9 m c) ⊢ Q ⟨⟩) :
    SSend2 m K c 7 (R7 m c) ⊢ WP c (k0_part107 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d v2 v1952 v1953 v1954 v1957) Q := by
  subst hd
  rw [k0_part107_eq_skeleton]; unfold k0_part107_skel
  iterate 15
    refine part_step (p' := ?_) ?_ ?_
    on_goal 2 => simp only [k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, semSignalWord, semWaitWord, Prog.lift, Prog.bind_op, Prog.bind_ret, Prog.pure_eq_ret]; exact rfl
    repeat
      refine send2_step ?_ ?_ rfl rfl ?_ ?_ rfl ?_
      · decide
      · clear * -
        revert d; decide +kernel
      · clear * -
        revert d; decide +kernel
      · clear * -
        revert d; decide +kernel
    refine ret_step ?_; try dsimp only
  refine (turn_recv2 d).trans ?_
  iterate 18
    refine part_step (p' := ?_) ?_ ?_
    on_goal 2 => simp only [k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel, k0_part84_eq_skeleton, k0_part84_skel, k0_part85_eq_skeleton, k0_part85_skel, k0_part86_eq_skeleton, k0_part86_skel, k0_part87_eq_skeleton, k0_part87_skel, k0_part88_eq_skeleton, k0_part88_skel, k0_part89_eq_skeleton, k0_part89_skel, k0_part90_eq_skeleton, k0_part90_skel, k0_part91_eq_skeleton, k0_part91_skel, k0_part92_eq_skeleton, k0_part92_skel, k0_part93_eq_skeleton, k0_part93_skel, semSignalWord, semWaitWord, Prog.lift, Prog.bind_op, Prog.bind_ret, Prog.pure_eq_ret]; exact rfl
    repeat
      first
      | refine wait_step ?_ (free  d _ _) rfl rfl ?_
        · decide
      | refine (turn_sent2 d).trans ?_
      | refine (turn_sent1 d).trans ?_
    refine ret_step ?_; try dsimp only
  iterate 12
    refine part_step (p' := ?_) ?_ ?_
    on_goal 2 => simp only [k0_part94_eq_skeleton, k0_part94_skel, k0_part95_eq_skeleton, k0_part95_skel, k0_part96_eq_skeleton, k0_part96_skel, k0_part97_eq_skeleton, k0_part97_skel, k0_part98_eq_skeleton, k0_part98_skel, k0_part99_eq_skeleton, k0_part99_skel, k0_part100_eq_skeleton, k0_part100_skel, k0_part101_eq_skeleton, k0_part101_skel, k0_part102_eq_skeleton, k0_part102_skel, k0_part103_eq_skeleton, k0_part103_skel, k0_part104_eq_skeleton, k0_part104_skel, k0_part105_eq_skeleton, k0_part105_skel, semSignalWord, semWaitWord, Prog.lift, Prog.bind_op, Prog.bind_ret, Prog.pure_eq_ret]; exact rfl
    repeat
      first
      | refine wait_step ?_ (free d _ _) rfl rfl ?_
        · decide
      | refine (turn_sent2 d).trans ?_
      | refine (turn_sent1 d).trans ?_
    refine ret_step ?_; try dsimp only
  simp only [Prog.lift, Prog.bind_op, Prog.bind_ret, Prog.pure_eq_ret]
  iterate 2
    refine wait_step ?_ (free d _ _) rfl rfl ?_
    · decide
  exact ret_step h

/-- One device's body: from what the device starts with to what it ends with. -/
theorem body_spec (c : Dev nD) : Entry m K c ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5) (fun _ => Exit m c) := by
  rw [cc0_body_eq_skeleton]; unfold cc0_body_skel
  refine part_step rfl (first_half c _ fun w hw => ?_)
  obtain ⟨d, v2, v1952, v1953, v1954, v1957⟩ := w
  dsimp only at hw ⊢
  refine part_step rfl (second_half c d hw _ _ _ _ _ _ ?_)
  subst hw
  simp only [Prog.lift, Prog.bind_op, Prog.bind_ret, Prog.pure_eq_ret]
  iterate 2
    refine wait_step ?_ (free d _ _) rfl rfl ?_
    · decide
  exact ret_step (turn_end d)

end Cert.KernelIdeal.Attn

end
-- ==== Proof.KernelIdeal.Ghost.lean ====
/-
# What the devices start with

The ghost state of the cells, allocated for all devices at once and dealt out: to each device the positions of
its own cells, and the tokens of the duties that it pays at other devices' cells. The credit that a device's
cells hold at launch.
-/
module

public import proofs.«01_k».proof.Proof.KernelIdeal.Turns

@[expose] public section

set_option maxRecDepth 16384

noncomputable section

namespace Cert.KernelIdeal.Attn

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

/-! ## Families over a device's cells -/

/-- A family over a device's cells is the barrier's member and those of the transfer semaphores. -/
theorem over_cells (Φ : Option (Fin 4 × J) → sProp 𝕄) :
    bigSep Finset.univ Φ = iprop(Φ none ∗ bigSep Finset.univ fun p : Fin 4 × J => Φ (some p)) := by
  have e : (Finset.univ : Finset (Option (Fin 4 × J))) = insert none (Finset.univ.map Function.Embedding.some) := by
    ext o; cases o <;> simp
  rw [e, bigSep_ins (by simp), bigSep_map]; rfl

/-- A family over the four kinds. -/
theorem over_kinds (Φ : Fin 4 × J → sProp 𝕄) :
    bigSep Finset.univ Φ = iprop((bigSep Finset.univ fun j : J => Φ (0, j)) ∗ (bigSep Finset.univ fun j : J => Φ (1, j))
      ∗ (bigSep Finset.univ fun j : J => Φ (2, j)) ∗ bigSep Finset.univ fun j : J => Φ (3, j)) := by
  rw [bigSep_univ_prod]
  exact bigSep_univ_eq_bigSepL [0, 1, 2, 3] (by decide) (by decide) _

/-- Two families in one another, either way round. -/
theorem over_both {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), bigSep_univ_equiv (Equiv.prodComm B A), bigSep_univ_prod]; rfl

/-! ## The cells and the tokens -/

theorem osem_inj : Function.Injective osem := by
  rintro (_ | ⟨a, j⟩) (_ | ⟨a', j'⟩) h
  · rfl
  · cases h
  · cases h
  · obtain ⟨rfl, rfl⟩ := dsem_inj (SemLoc.dma.inj h); rfl

theorem kcell_inj : Function.Injective kcell := by
  rintro ⟨c, k⟩ ⟨c', k'⟩ h
  have h1 : c = c' := congrArg (fun g : GSem nD τ sig => g.1.1) h
  have h2 : k = k' := osem_inj (congrArg Prod.snd h)
  rw [h1, h2]
def allCells : Finset (GSem nD τ sig) := Finset.univ.map ⟨kcell, kcell_inj⟩

/-- The duties of a device's own cells: the barrier's 31, and one of each transfer semaphore. -/
def tokOf : Dev nD × (J ⊕ (Fin 4 × J)) → GSem nD τ sig × ℕ × J
  | (c, .inl j) => (barC c, 0, j)
  | (c, .inr p) => (dC p.1 c p.2, 0, 0)
theorem tokOf_inj : Function.Injective tokOf := by
  rintro ⟨c, x⟩ ⟨c', x'⟩ h
  have h1 : c = c' := by
    have := congrArg (fun y : GSem nD τ sig × ℕ × J => y.1.1.1) h
    cases x <;> cases x' <;> exact this
  subst h1
  cases x with
  | inl j =>
    cases x' with
    | inl j' =>
      have h2 : j = j' := congrArg (fun y : GSem nD τ sig × ℕ × J => y.2.2) h
      rw [h2]
    | inr p => exact absurd (congrArg (fun y : GSem nD τ sig × ℕ × J => y.1.2) h) (fun h' => by cases h')
  | inr p =>
    cases x' with
    | inl j' => exact absurd (congrArg (fun y : GSem nD τ sig × ℕ × J => y.1.2) h) (fun h' => by cases h')
    | inr p' =>
      have h2 : (SemLoc.dma (dsem p.1 p.2) : SemLoc sig) = .dma (dsem p'.1 p'.2) := congrArg (fun y : GSem nD τ sig × ℕ × J => y.1.2) h
      obtain ⟨e1, e2⟩ := dsem_inj (SemLoc.dma.inj h2)
      rw [Prod.ext e1 e2]
def allToks : Finset (GSem nD τ sig × ℕ × J) := Finset.univ.map ⟨tokOf, tokOf_inj⟩

def u₀ : UU :=
  (initOf (Pipeline.cells cfgs cellOf_inj) (Pipeline.launchToks cfgs cellOf_inj), initOf allCells allToks)

/-- The tokens of a device's own cells. -/
def toks (c : Dev nD) : sProp 𝕄 :=
  iprop((bigSep Finset.univ fun j : J => dutyTok ER (barC c) 0 j) ∗ bigSep Finset.univ fun p : Fin 4 × J => dutyTok ER (dC p.1 c p.2) 0 0)
/-- A device's positions in its own cells. -/
def positions (c : Dev nD) : sProp 𝕄 := bigSep Finset.univ fun k : Option (Fin 4 × J) => atPos ER (kcell (c, k)) 0 ∅ 0

/-- What the launch deals a device, -/
def G (c : Dev nD) : sProp 𝕄 :=
  iprop((bigSep Finset.univ fun k : Option (Fin 4 × J) => roundState ER (Rd m) (kcell (c, k)) 0)
    ∗ (bigSep Finset.univ fun k : Option (Fin 4 × J) => reached ER (kcell (c, k)) 0) ∗ positions c ∗ toks c)

/-- the tokens that it will spend, -/
def payToks (c : Dev nD) : sProp 𝕄 := iprop(tokSig c ∗ tok 0 1 c ∗ tok 2 3 c)
/-- what all devices know, the levels left out, -/
def known (K : Dev nD × Option (Fin 4 × J) → ℕ) : sProp 𝕄 :=
  iprop((bigSep Finset.univ fun ck : Dev nD × Option (Fin 4 × J) => cellInv ER (Rd m) (K ck) (kcell ck))
    ∗ bigSep Finset.univ fun ck : Dev nD × Option (Fin 4 × J) => reached ER (kcell ck) 0)
instance known_persistent (K : Dev nD × Option (Fin 4 × J) → ℕ) : BI.Persistent (known m K) := by unfold known; infer_instance
/-- and what it has once every cell is set up. -/
def G' (c : Dev nD) : sProp 𝕄 := iprop(∃ K, known m K ∗ positions c ∗ payToks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Option (Fin 4 × J) => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by rw [bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · unfold positions; iexact Hat'
  iexact Htok'

/-! ## Setting up the cells -/

/-- The kernel's own semaphores, those of its transfers. -/
abbrev dmaSem (p : Fin 4 × J) : SemLoc sig := osem (some p)

theorem unscoped_eq (c : Dev nD) : (unscopedSems0 c : sProp 𝕄) = semVal (barC c) 0 := by
  unfold unscopedSems0; rw [bigSep_eq_bigSepL_of_eq [SemLoc.reg barS] (by decide +kernel) (by decide)]; rfl

theorem sems_all (c : Dev nD) :
    iprop(Pipeline.ownSems0 (Ix := Unit) (Name := ℕ) (U := UU) (Lvl := ℕ) (Val := Elt F) (τ := τ) dmaSem c ∗ unscopedSems0 c)
      ⊢ (bigSep Finset.univ fun k : Option (Fin 4 × J) => semVal (kcell (c, k)) 0 : sProp 𝕄) := by
  rw [unscoped_eq, over_cells]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) dmaSem c ∗ unscopedSems0 c ∗ G m c)
      ⊢ |={Set.univ}=> iprop((bigSep Finset.univ fun k => iprop(∃ κ : ℕ, cellInv ER (Rd m) κ (kcell (c, k))))
          ∗ (bigSep Finset.univ fun k : Option (Fin 4 × J) => reached ER (kcell (c, k)) 0) ∗ positions c ∗ toks c) := by
  unfold G
  iintro ⟨Hos, Hus, Hst, Hr, Hat, Htok⟩
  ihave Hv := (sems_all (F := F) c) $$ [Hos Hus]
  · isplitl [Hos] <;> iassumption
  imod (show iprop((bigSep Finset.univ fun k : Option (Fin 4 × J) => semVal (kcell (c, k)) 0) ∗ bigSep Finset.univ fun k : Option (Fin 4 × J) => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- Going `j + 1` back, as a permutation of the offsets. -/
def revE : J ≃ J := ⟨rev, rev, rev_rev, rev_rev⟩

/-- The barrier tokens dealt around: the token of the signal that comes from `j + 1` further on. -/
theorem bar_around : (bigSep Finset.univ fun c : Dev nD => bigSep Finset.univ fun j : J => (dutyTok ER (barC c) 0 j : sProp 𝕄))
    = bigSep Finset.univ fun c : Dev nD => tokSig c := by
  unfold tokSig
  rw [over_both, over_both (fun (c : Dev nD) (j : J) => (dutyTok ER (barC (nxt c j)) 0 (rev j) : sProp 𝕄)), bigSep_univ_equiv revE]
  exact bigSep_congr fun j _ => bigSep_univ_equiv (shift j) (fun c : Dev nD => (dutyTok ER (barC c) 0 (rev j) : sProp 𝕄))

/-- A receive semaphore's tokens dealt around. -/
theorem recv_around (a : Fin 4) : (bigSep Finset.univ fun c : Dev nD => bigSep Finset.univ fun j : J => (dutyTok ER (dC a c j) 0 0 : sProp 𝕄))
    = bigSep Finset.univ fun c : Dev nD => bigSep Finset.univ fun j : J => (dutyTok ER (dC a (nxt c j) j) 0 0 : sProp 𝕄) := by
  rw [over_both, over_both (fun (c : Dev nD) (j : J) => (dutyTok ER (dC a (nxt c j) j) 0 0 : sProp 𝕄))]
  exact bigSep_congr fun j _ => bigSep_univ_equiv (shift j) (fun c : Dev nD => (dutyTok ER (dC a c j) 0 0 : sProp 𝕄))

theorem toks_around : (bigSep Finset.univ fun c : Dev nD => (toks c : sProp 𝕄)) ⊢ bigSep Finset.univ fun c : Dev nD => payToks c := by
  unfold toks payToks tok
  simp only [over_kinds, bigSep_sep', bar_around]
  rw [recv_around 1, recv_around 3]
  iintro ⟨HB, H0, H1, H2, H3⟩
  isplitl [HB]; · iexact HB
  isplitl [H0 H1]
  · isplitl [H0]; · iexact H0
    iexact H1
  isplitl [H2]; · iexact H2
  iexact H3

theorem with_known {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k => iprop(∃ κ : ℕ, cellInv ER (Rd m) κ (kcell (c, k))))
          ∗ (bigSep Finset.univ fun k : Option (Fin 4 × J) => reached ER (kcell (c, k)) 0) ∗ positions c ∗ toks c) : sProp 𝕄)
      ⊢ bigSep Finset.univ (G' m) := by
  rw [bigSep_sep', bigSep_sep', bigSep_sep', ← bigSep_univ_prod (fun ck : Dev nD × Option (Fin 4 × J) => iprop(∃ κ : ℕ, cellInv ER (Rd m) κ (kcell ck))),
    ← bigSep_univ_prod (fun ck : Dev nD × Option (Fin 4 × J) => (reached ER (kcell ck) 0 : sProp 𝕄))]
  iintro ⟨HI, #HR, Hat, Htok⟩
  ihave HK := (BI.bigSep_exists_pi Finset.univ (fun (ck : Dev nD × Option (Fin 4 × J)) (κ : ℕ) => (cellInv ER (Rd m) κ (kcell ck) : sProp 𝕄))) $$ HI
  icases HK with ⟨%K, #HI⟩
  ihave Htk := (toks_around (F := F)) $$ Htok
  iapply (with_known (R := known m K) (Φ := fun c => iprop(positions c ∗ payToks c)) (Ψ := G' m) fun c => by
    unfold G'; iintro ⟨#HK, HP⟩; iexists K; isplitr; · iexact HK
    iexact HP)
  isplitr
  · unfold known; isplitl; · iexact HI
    iexact HR
  · iapply (Entails.of_eq (bigSep_sep' Finset.univ (fun c : Dev nD => (positions c : sProp 𝕄)) payToks).symm)
    isplitl [Hat]; · iexact Hat
    iexact Htk

/-- All cells of all devices set up at once. -/
theorem glob : (bigSep Finset.univ fun c => iprop(Pipeline.ownSems0 (Ix := Unit) (Name := ℕ) (U := UU) (Lvl := ℕ) (Val := Elt F) (τ := τ) dmaSem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem sum_apply {S : Finset J} {f : J → GSem nD τ sig} {k : ℕ} (g : GSem nD τ sig) :
    (∑ j ∈ S, tallyAt (f j) () k : CellTallies nD τ sig Unit) g () = ∑ j ∈ S, if g = f j then k else 0 := by
  classical
  induction S using Finset.induction_on with
  | empty => rfl
  | insert j S hj ih =>
    rw [Finset.sum_insert hj, Finset.sum_insert hj, Pi.add_apply, Finsupp.add_apply, ih, tallyAt_apply]
    congr 1
    simp

theorem oBar_at (d c : Dev nD) : oBar d 0 (barC c) () = ∑ j : J, if d = prv c j then 1 else 0 := by
  unfold oBar; rw [filter_zero, sum_apply]
  refine Finset.sum_congr rfl fun j _ => if_congr ⟨fun h => ?_, fun h => ?_⟩ rfl rfl
  · have : c = nxt d j := congrArg (fun g : GSem nD τ sig => g.1.1) h
    rw [this, prv_nxt]
  · rw [h, nxt_prv]
theorem oDma_bar (a : Fin 4) (d c : Dev nD) : oDma a d 0 (barC c) () = 0 := by
  unfold oDma; rw [sum_apply]
  exact Finset.sum_eq_zero fun j _ => if_neg fun h => by cases congrArg Prod.snd h
theorem oBar_dma (a : Fin 4) (d c : Dev nD) (j : J) : oBar d 0 (dC a c j) () = 0 := by
  unfold oBar; rw [sum_apply]
  exact Finset.sum_eq_zero fun j _ => if_neg fun h => by cases congrArg Prod.snd h
theorem oDma_at (a : Fin 4) (d c : Dev nD) (j : J) : oDma a d 0 (dC a c j) () = if d = prv c j then N else 0 := by
  unfold oDma; rw [filter_zero, sum_apply, Finset.sum_eq_single j]
  · refine if_congr ⟨fun h => ?_, fun h => ?_⟩ rfl rfl
    · have : c = nxt d j := congrArg (fun g : GSem nD τ sig => g.1.1) h
      rw [this, prv_nxt]
    · rw [h, nxt_prv]
  · intro j' _ hj
    exact if_neg fun h => hj (dsem_inj (SemLoc.dma.inj (congrArg Prod.snd h))).2.symm
  · intro h; exact absurd (Finset.mem_univ _) h
theorem oDma_other {a a' : Fin 4} (h : a ≠ a') (d c : Dev nD) (j : J) : oDma a d 0 (dC a' c j) () = 0 := by
  unfold oDma; rw [sum_apply]
  exact Finset.sum_eq_zero fun j _ => if_neg fun e => h (dsem_inj (SemLoc.dma.inj (congrArg Prod.snd e))).1.symm

theorem owed_at (d : Dev nD) (g : GSem nD τ sig) : O₀ d g () = oDma 3 d 0 g () + oDma 1 d 0 g () + oBar d 0 g () := rfl

theorem launch_bar (c : Dev nD) :
    tallyOn (barC c) (launchCredit (Pipeline.owing O₀) 0 (barC c)) = (tallyAt (barC c) () 31 : CellTallies nD τ sig Unit) := by
  unfold tallyAt; refine congrArg _ (Finsupp.ext fun u => ?_); cases u
  rw [Pipeline.launchCredit_owing, Finsupp.single_eq_same, Finset.sum_congr rfl fun d _ => (owed_at d (barC c)).trans (by
    rw [oDma_bar, oDma_bar, oBar_at, zero_add, zero_add]), Finset.sum_comm]
  rw [Finset.sum_congr rfl fun j _ => Finset.sum_ite_eq' Finset.univ (prv c j) fun _ => 1]
  simp

theorem owed_dma {a : Fin 4} (ha : a = 1 ∨ a = 3) (d c : Dev nD) (j : J) : O₀ d (dC a c j) () = if d = prv c j then N else 0 := by
  rw [owed_at, oBar_dma]
  rcases ha with rfl | rfl
  · rw [oDma_other (a := 3) (by decide), oDma_at, zero_add, add_zero]
  · rw [oDma_other (a := 1) (by decide), oDma_at, add_zero, add_zero]

theorem launch_dma {a : Fin 4} (ha : a = 1 ∨ a = 3) (c : Dev nD) (j : J) :
    tallyOn (dC a c j) (launchCredit (Pipeline.owing O₀) 0 (dC a c j)) = (tallyAt (dC a c j) () N : CellTallies nD τ sig Unit) := by
  unfold tallyAt; refine congrArg _ (Finsupp.ext fun u => ?_); cases u
  rw [Pipeline.launchCredit_owing, Finsupp.single_eq_same, Finset.sum_congr rfl fun d _ => owed_dma ha d c j,
    Finset.sum_ite_eq' Finset.univ (prv c j) fun _ => N, if_pos (Finset.mem_univ _)]

theorem creds (c : Dev nD) :
    (Pipeline.launchCred O₀ c : sProp 𝕄) ⊢ iprop(cred (tallyAt (barC c) () 31)
      ∗ (bigSep Finset.univ fun j : J => cred (tallyAt (dC 1 c j) () N)) ∗ bigSep Finset.univ fun j : J => cred (tallyAt (dC 3 c j) () N)) := by
  unfold Pipeline.launchCred
  refine BIBase.Entails.trans (bigSep_subset (Finset.subset_univ (Finset.univ.map ⟨osem, osem_inj⟩))) ?_
  rw [bigSep_map, over_cells, over_kinds]
  simp only [Function.Embedding.coeFn_mk]
  rw [launch_bar, bigSep_congr fun j _ => congrArg cred (launch_dma (Or.inl rfl) c j), bigSep_congr fun j _ => congrArg cred (launch_dma (Or.inr rfl) c j)]
  iintro ⟨HB, -, H1, -, H3⟩
  isplitl [HB]; · iexact HB
  isplitl [H1]; · iexact H1
  iexact H3

end Cert.KernelIdeal.Attn

end
-- ==== Proof.KernelIdeal.Launch.lean ====
/-
# The launch

The kernel's body, the initial ghost state and the launch credit put together: every weakly fair execution of
the program ends, with each device's result array at the whole result, its arguments unchanged and every
semaphore at zero.
-/
module

public import proofs.«01_k».proof.Proof.KernelIdeal.Second
public import proofs.«01_k».proof.Proof.KernelIdeal.Ghost
public import proofs.«01_k».proof.Proof.Gen.KernelIdeal.Points
public import Idealize.ShloMosaic.Lib.Pipeline.Value
public import Idealize.ShloMosaic.Lib.Pipeline.CollectiveSegs

@[expose] public section

set_option maxRecDepth 16384

noncomputable section

namespace Cert.KernelIdeal.Attn

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What a device holds before its body, but for its staging buffers, -/
def start (c : Dev nD) : sProp 𝕄 :=
  iprop(∃ K, records m K ∗ barPre c ∗ tokSig c ∗ tok 0 1 c ∗ tok 2 3 c ∗ waits 1 c ∗ waits 3 c ∗ poss 0 c ∗ poss 2 c)
def Φ₀ (c : Dev nD) : sProp 𝕄 := iprop(start m c ∗ ownsE c partM ∗ ownsE c rsM)
/-- and after it. -/
def Φ₁ (c : Dev nD) : sProp 𝕄 :=
  iprop(ownsE (F := F) c partM ∗ ownsE c rsM ∗ semVal (barC c) 0
    ∗ bigSep Finset.univ fun j : J => iprop(semVal (dC 0 c j) 0 ∗ semVal (dC 1 c j) 0 ∗ semVal (dC 2 c j) 0 ∗ semVal (dC 3 c j) 0))

def dats (_ : Fin 1) (c : Dev nD) : Dat τ (Elt F) Unit ℕ UU ℕ cfg0 c where
  A w := m ((cfg0.win w).arr.view.loc (c : Thread nD τ))
  after w _ := match w with
    | ⟨0, _⟩ => (blks m c).x
    | ⟨1, _⟩ => (blks m c).wq
    | ⟨2, _⟩ => (blks m c).k
    | ⟨3, _⟩ => (blks m c).v
    | ⟨4, _⟩ => (blks m c).wo
    | ⟨5, _⟩ => full m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev t₀ : Fin cfg0.N := t0_0

theorem offs_0 (t : Fin cfg0.N) : (fun a => win0_0.index t a * win0_0.size a) = fun _ => 0 := funext fun a => by fin_cases a <;> rfl
theorem offs_1 (t : Fin cfg0.N) : (fun a => win0_1.index t a * win0_1.size a) = fun _ => 0 := funext fun a => by fin_cases a <;> rfl
theorem offs_2 (t : Fin cfg0.N) : (fun a => win0_2.index t a * win0_2.size a) = fun _ => 0 := funext fun a => by fin_cases a <;> rfl
theorem offs_3 (t : Fin cfg0.N) : (fun a => win0_3.index t a * win0_3.size a) = fun _ => 0 := funext fun a => by fin_cases a <;> rfl
theorem offs_4 (t : Fin cfg0.N) : (fun a => win0_4.index t a * win0_4.size a) = fun _ => 0 := funext fun a => by fin_cases a <;> rfl
theorem offs_5 (t : Fin cfg0.N) : (fun a => win0_5.index t a * win0_5.size a) = fun _ => 0 := funext fun a => by fin_cases a <;> rfl

theorem before_0 (c : Dev nD) (d) : (dats m 0 c).before (0 : Fin 6) t₀ d = (blks m c).x := by
  unfold Dat.before; rw [if_pos (fetch0_0 t₀)]
  show (win0_0.blk t₀).view.read (Elt F) (blks m c).x = _
  exact Memref.read_access_unit_zero (Elt F) main_arg0 (off := fun a => win0_0.index t₀ a * win0_0.size a) (offs_0 t₀) _ (blks m c).x
theorem before_1 (c : Dev nD) (d) : (dats m 0 c).before (1 : Fin 6) t₀ d = (blks m c).wq := by
  unfold Dat.before; rw [if_pos (fetch0_1 t₀)]
  show (win0_1.blk t₀).view.read (Elt F) (blks m c).wq = _
  exact Memref.read_access_unit_zero (Elt F) main_arg1 (off := fun a => win0_1.index t₀ a * win0_1.size a) (offs_1 t₀) _ (blks m c).wq
theorem before_2 (c : Dev nD) (d) : (dats m 0 c).before (2 : Fin 6) t₀ d = (blks m c).k := by
  unfold Dat.before; rw [if_pos (fetch0_2 t₀)]
  show (win0_2.blk t₀).view.read (Elt F) (blks m c).k = _
  exact Memref.read_access_unit_zero (Elt F) main_arg2 (off := fun a => win0_2.index t₀ a * win0_2.size a) (offs_2 t₀) _ (blks m c).k
theorem before_3 (c : Dev nD) (d) : (dats m 0 c).before (3 : Fin 6) t₀ d = (blks m c).v := by
  unfold Dat.before; rw [if_pos (fetch0_3 t₀)]
  show (win0_3.blk t₀).view.read (Elt F) (blks m c).v = _
  exact Memref.read_access_unit_zero (Elt F) main_arg3 (off := fun a => win0_3.index t₀ a * win0_3.size a) (offs_3 t₀) _ (blks m c).v
theorem before_4 (c : Dev nD) (d) : (dats m 0 c).before (4 : Fin 6) t₀ d = (blks m c).wo := by
  unfold Dat.before; rw [if_pos (fetch0_4 t₀)]
  show (win0_4.blk t₀).view.read (Elt F) (blks m c).wo = _
  exact Memref.read_access_unit_zero (Elt F) main_arg4 (off := fun a => win0_4.index t₀ a * win0_4.size a) (offs_4 t₀) _ (blks m c).wo

theorem over_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-! ## The body -/

/-- A staging buffer of a device, owned whole at `X`. -/
abbrev stg (c : Dev nD) (b : Ref sig .tc) (X : b.ty.Contents (Elt F)) : sProp 𝕄 :=
  owns (Ix := Unit) (Name := ℕ) (U := UU) (Lvl := ℕ) (c : Thread nD τ) (Memref.whole b) fullShare X

def pre (c : Dev nD) : sProp 𝕄 :=
  iprop(Φ₀ m c ∗ (dats m 0 c).owesAt () t₀.castSucc
    ∗ (∃ d, stg c cc0_stg0_0 ((dats m 0 c).before (0 : Fin 6) t₀ d))
    ∗ (∃ d, stg c cc0_stg1_0 ((dats m 0 c).before (1 : Fin 6) t₀ d))
    ∗ (∃ d, stg c cc0_stg2_0 ((dats m 0 c).before (2 : Fin 6) t₀ d))
    ∗ (∃ d, stg c cc0_stg3_0 ((dats m 0 c).before (3 : Fin 6) t₀ d))
    ∗ (∃ d, stg c cc0_stg4_0 ((dats m 0 c).before (4 : Fin 6) t₀ d))
    ∗ (∃ d, stg c cc0_stg5_0 ((dats m 0 c).before (5 : Fin 6) t₀ d)))
def post (c : Dev nD) : sProp 𝕄 :=
  iprop(Φ₁ c ∗ (dats m 0 c).owesAt () t₀.succ ∗ stg c cc0_stg0_0 (blks m c).x ∗ stg c cc0_stg1_0 (blks m c).wq
    ∗ stg c cc0_stg2_0 (blks m c).k ∗ stg c cc0_stg3_0 (blks m c).v ∗ stg c cc0_stg4_0 (blks m c).wo ∗ stg c cc0_stg5_0 (full m))

theorem pre_entry (c : Dev nD) : pre m c ⊢ iprop(∃ K, Entry m K c) := by
  unfold pre Φ₀ start
  simp only [before_0, before_1, before_2, before_3, before_4]
  iintro ⟨⟨⟨%K, #HK, HB, HT, H01, H23, HW1, HW3, HP0, HP2⟩, Hp, Hr⟩, Ho, ⟨%d0, H0⟩, ⟨%d1, H1⟩, ⟨%d2, H2⟩, ⟨%d3, H3⟩, ⟨%d4, H4⟩, ⟨%d5, H5⟩⟩
  unfold Dat.owesAt Pipeline.owesWithin
  icases Ho with ⟨%W, %hW, HO⟩
  iexists K
  unfold Entry Args
  isplitr; · iexact HK
  isplitl [HO]; · unfold owesE; iexists W; iexact HO
  isplitl [HB]; · iexact HB
  isplitl [HT]; · iexact HT
  isplitl [H01 H23 HW1 HW3 HP0 HP2]
  · isplitl [H01]; · iexact H01
    isplitl [H23]; · iexact H23
    isplitl [HW1]; · iexact HW1
    isplitl [HW3]; · iexact HW3
    isplitl [HP0] <;> iassumption
  isplitl [Hr]; · iexact Hr
  isplitl [Hp]; · iexact Hp
  isplitl [H5]; · unfold ownsE; iexists _; iexact H5
  isplitl [H0]; · iexact H0
  isplitl [H1]; · iexact H1
  isplitl [H2]; · iexact H2
  isplitl [H3]; · iexact H3
  iexact H4

theorem exit_post (c : Dev nD) : Exit m c ⊢ post m c := by
  unfold Exit post Args Φ₁ owesE
  iintro ⟨⟨%W, HO⟩, ⟨H0, H1, H2, H3, H4⟩, H5, Hp, Hr, HB, HS⟩
  isplitl [Hp Hr HB HS]
  · isplitl [Hp]; · iexact Hp
    isplitl [Hr]; · iexact Hr
    isplitl [HB] <;> iassumption
  isplitl [HO]
  · unfold Dat.owesAt Pipeline.owesWithin
    iexists W
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

theorem body_to_post (K : Dev nD × Option (Fin 4 × J) → ℕ) (c : Dev nD) : Entry m K c ⊢ WP c
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      cc0_scratch2 cc0_scratch3 cc0_scratch4 cc0_scratch5) (fun _ => post m c) := by
  have h := body_spec (m := m) (K := K) c
  unfold WP at h ⊢
  exact BIBase.Entails.trans h (wp_mono _ _ _ fun _ => exit_post m c)

/-- The pipeline's one point runs the kernel's body. -/
theorem body_obligation (c : Dev nD) : BodyObligation (dats (F := F) m 0 c) (defs₀ (F := F)) 𝒱₀ () Set.univ := fun t => by
  rw [fin_N0 t]
  rw [over_W, over_W]
  show pre m c ⊢ WP c
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      cc0_scratch2 cc0_scratch3 cc0_scratch4 cc0_scratch5) (fun _ => post m c)
  refine BIBase.Entails.trans (pre_entry m c) ?_
  iintro ⟨%K, HE⟩
  iapply (body_to_post m K c)
  iexact HE

/-! ## The launch theorem's conditions -/

theorem ownSemFacts : Pipeline.OwnSemFacts cfg0.spec dmaSem := by decide +kernel

theorem share_eq (c : Dev nD) (w : Fin cfg0.W) : (dats m 0 c).share w = fullShare := by unfold Dat.share; split <;> rfl

theorem ownsE_open (c : Dev nD) (b : Ref sig .tc) :
    (iprop(∃ X, stg (F := F) c b X) : sProp 𝕄) ⊢ iprop(∃ f : Buf (Elt F) ((c : Thread nD τ).loc b), ((c : Thread nD τ).loc b) ↦{fullShare} f) := by
  unfold stg owns
  simp only [Memref.view_whole, View.read_whole, View.set_whole]
  iintro ⟨%X, %f, %h, Hf⟩
  iexists f; iexact Hf
theorem ownsE_shut (c : Dev nD) (b : Ref sig .tc) :
    (iprop(∃ f : Buf (Elt F) ((c : Thread nD τ).loc b), ((c : Thread nD τ).loc b) ↦{fullShare} f) : sProp 𝕄) ⊢ iprop(∃ X, stg (F := F) c b X) := by
  unfold stg owns
  simp only [Memref.view_whole, View.read_whole, View.set_whole]
  iintro ⟨%f, Hf⟩
  iexists f; iexists f
  isplitr; · ipureintro; rfl
  iexact Hf
/-- A whole buffer held at some contents. -/
theorem ownsE_eq (c : Dev nD) (b : Ref sig .tc) :
    (iprop(∃ X, stg (F := F) c b X) : sProp 𝕄) = iprop(∃ f : Buf (Elt F) ((c : Thread nD τ).loc b), ((c : Thread nD τ).loc b) ↦{fullShare} f) :=
  equiv_iff.mp ⟨ownsE_open c b, ownsE_shut c b⟩

theorem partE (c : Dev nD) : (ownsE c partM : sProp 𝕄) = iprop(∃ f : Buf (Elt F) ((c : Thread nD τ).loc cc0_scratch0), ((c : Thread nD τ).loc cc0_scratch0) ↦{fullShare} f) :=
  ownsE_eq c cc0_scratch0
theorem rsE (c : Dev nD) : (ownsE c rsM : sProp 𝕄) = iprop(∃ f : Buf (Elt F) ((c : Thread nD τ).loc cc0_scratch1), ((c : Thread nD τ).loc cc0_scratch1) ↦{fullShare} f) :=
  ownsE_eq c cc0_scratch1

theorem start_of (K : Dev nD × Option (Fin 4 × J) → ℕ) (c : Dev nD) :
    iprop(known m K ∗ levAts L lv ∗ positions c ∗ payToks c ∗ cred (tallyAt (barC c) () 31)
      ∗ (bigSep Finset.univ fun j : J => cred (tallyAt (dC 1 c j) () N)) ∗ bigSep Finset.univ fun j : J => cred (tallyAt (dC 3 c j) () N)) ⊢ start m c := by
  unfold known positions payToks start records barPre waits waitPre poss
  simp only [over_cells, over_kinds, bigSep_sep']
  iintro ⟨⟨HI, HR⟩, Hl, ⟨HaB, Ha0, Ha1, Ha2, Ha3⟩, ⟨HT, H01, H23⟩, HB, H1, H3⟩
  iexists K
  isplitl [HI HR Hl]
  · isplitl [HI]; · iexact HI
    isplitl [HR] <;> iassumption
  isplitl [HB HaB]; · isplitl [HB] <;> iassumption
  isplitl [HT]; · iexact HT
  isplitl [H01]; · iexact H01
  isplitl [H23]; · iexact H23
  isplitl [H1 Ha1]; · isplitl [H1] <;> iassumption
  isplitl [H3 Ha3]; · isplitl [H3] <;> iassumption
  isplitl [Ha0] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, ⟨%K, HK, Hp, Ht⟩⟩
  ihave Hc := (creds (F := F) c) $$ Hcr
  icases Hc with ⟨HB, H1, H3⟩
  imodintro
  isplitl
  · iapply (start_of m K c)
    isplitl [HK]; · iexact HK
    isplitl [Hlev]; · iexact Hlev
    isplitl [Hp]; · iexact Hp
    isplitl [Ht]; · iexact Ht
    isplitl [HB]; · iexact HB
    isplitl [H1] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  rw [partE, rsE]
  iintro ⟨Hs, -, Hp, Hr⟩
  isplitl [Hs]; · iexact Hs
  isplitl [Hp] <;> iassumption

theorem phi1_exit (c : Dev nD) :
    (dats m 0 c).Φ (Fin.last cfg0.N) ⊢ iprop(unscopedSems0 c ∗ Pipeline.ownSems0 dmaSem c ∗ Pipeline.scopedRest cfg0.spec c) := by
  rw [show (dats m 0 c).Φ (Fin.last cfg0.N) = Φ₁ c from rfl, scopedRest0_eq, unscoped_eq]
  unfold Φ₁ Pipeline.ownSems0
  rw [partE, rsE, over_kinds]
  simp only [bigSep_sep']
  iintro ⟨Hp, Hr, HB, HS⟩
  isplitl [HB]; · iexact HB
  isplitl [HS]; · iexact HS
  isplitl [Hp] <;> iassumption

theorem lv_pos_of_owed {c : Dev nD} {g : GSem nD τ sig} {u : Unit} (h : 0 < O₀ c g u) : g.1.2 = .tc ∧ 0 < lv g () := by
  cases u
  rw [owed_at] at h
  rcases Nat.pos_of_ne_zero (fun e => by omega : ¬ (oDma 3 c 0 g () + oDma 1 c 0 g () + oBar c 0 g () = 0)) with _
  by_cases h3 : 0 < oDma 3 c 0 g ()
  · obtain ⟨d, j, rfl⟩ := oDma_pos h3; rw [lv_recv2]; exact ⟨rfl, by decide⟩
  by_cases h1 : 0 < oDma 1 c 0 g ()
  · obtain ⟨d, j, rfl⟩ := oDma_pos h1; rw [lv_recv1]; exact ⟨rfl, by decide⟩
  obtain ⟨d, rfl⟩ := oBar_pos (by omega : 0 < oBar c 0 g ())
  rw [lv_bar]; exact ⟨rfl, by decide⟩

/-- A wait on a staging semaphore is below everything a device owes. -/
theorem wait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by unfold L; rw [if_pos (lv_pos_of_owed hg).1]; exact Finset.mem_singleton_self _)
      (fun p hp => by rw [Finset.mem_singleton.mp hp]; exact le_of_eq hq)
      (fun g u hg => (lv_pos_of_owed hg).2)
  · rw [MayWait_zero]; iintro -; iempintro

theorem stage_waits (c : Dev nD) : (levAts L lv : sProp 𝕄) ⊢ Pipeline.cellsWaits cfgs (dats m) () 0 c :=
  Pipeline.cellsWaits_intro cfgs (dats m) () 0 c fun w s t =>
    wait_stage c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

/-- The state at launch. -/
abbrev s₀ : MemSt nD τ sig (Elt F) := ⟨m, fun _ => 0, ρ⟩

def QC : PUnit × MemSt nD τ sig (Elt F) → Prop := fun r =>
  ∀ c : Dev nD, ∀ w : Fin cfg0.W, r.2.mem ((cfg0.win w).arr.view.loc (c : Thread nD τ)) = finalA m c w

/-- Every weakly fair execution ends, its arrays as the pipeline's data say and its semaphores at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := stage_waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem read_result (t : Fin cfg0.N) (f : (main_v1 : Ref sig .tc).ty.Contents (Elt F)) :
    ((cfg0.win (5 : Fin 6)).blk t).view.read (Elt F) f = f := by
  obtain rfl := fin_N0 t
  exact Memref.read_access_unit_zero (Elt F) main_v1 (off := fun a => win0_5.index t0_0 a * win0_5.size a) (offs_5 t0_0) _ f

theorem flushed_eq (c : Dev nD) (t : Fin cfg0.N) :
    (dats m 0 c).flushed (5 : Fin 6) t = ((cfg0.win (5 : Fin 6)).blk t).view.read (Elt F) (full m) := by
  rw [read_result]
  rfl

theorem cover (i : S1024x768.Idx) : ∃ t : Fin cfg0.N, (cfg0.win (5 : Fin 6)).flush t = true ∧ i ∈ ((cfg0.win (5 : Fin 6)).blk t).view.set := by
  refine ⟨t0_0, flush0_5 _, ?_⟩
  show i ∈ ((View.whole main_v1).slice (win0_5.rect t0_0)).set
  rw [View.set_slice_whole, Rect.mem_set_unit]
  intro a
  fin_cases a
  · have h : (i 0 : ℕ) < 1024 := (i 0).isLt
    show 0 * 1024 ≤ (i 0 : ℕ) ∧ (i 0 : ℕ) < 0 * 1024 + 1024
    omega
  · have h : (i 1 : ℕ) < 768 := (i 1).isLt
    show 0 * 768 ≤ (i 1 : ℕ) ∧ (i 1 : ℕ) < 0 * 768 + 768
    omega

/-- The result array ends at the whole result, -/
theorem final_result (c : Dev nD) : finalA m c (5 : Fin 6) = full m :=
  (dats m 0 c).arrAt_eq_of_cover (5 : Fin 6) (full m) (fun t _ => flushed_eq m c t) cover

/-- and the arguments as they were. -/
theorem run_value : θ_run defs (onTc (τ := τ) (main (F := F))) (s₀ m ρ) (fun r => ((∀ c : Dev nD,
      r.2.mem ((c : Thread nD τ).loc main_v1) = full m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0)) :=
  (θ_run _ _ _).mono (fun r h => ⟨fun c => ⟨(h.1 c (5 : Fin 6)).trans (final_result m c),
    (h.1 c (0 : Fin 6)).trans ((dats m 0 c).arrAt_in (0 : Fin 6) rfl _),
    (h.1 c (1 : Fin 6)).trans ((dats m 0 c).arrAt_in (1 : Fin 6) rfl _),
    (h.1 c (2 : Fin 6)).trans ((dats m 0 c).arrAt_in (2 : Fin 6) rfl _),
    (h.1 c (3 : Fin 6)).trans ((dats m 0 c).arrAt_in (3 : Fin 6) rfl _),
    (h.1 c (4 : Fin 6)).trans ((dats m 0 c).arrAt_in (4 : Fin 6) rfl _)⟩, h.2⟩) (run_main m ρ)

end Cert.KernelIdeal.Attn

end
-- ==== Proof.Value.Soft.lean ====
/-
# The softmax, shifted and not

The reference subtracts a row's largest score before it takes the exponentials, the kernel does not, and the
kernel divides after the product with the values, the reference before. At real scores both are the same
average of the values, whatever the values are.
-/
module

public import Idealize.ShloMosaic.Lib.Pointwise

@[expose] public section

noncomputable section

namespace Cert.Value

open Idealize.ShloMosaic

/-- An extended real that is a real number. -/
def IsR (e : EReal) : Prop := ∃ r : ℝ, e = (r : EReal)

theorem IsR.coe (r : ℝ) : IsR (r : EReal) := ⟨r, rfl⟩
theorem IsR.zero : IsR 0 := ⟨0, rfl⟩
theorem IsR.add {a b : EReal} (ha : IsR a) (hb : IsR b) : IsR (a + b) := by
  obtain ⟨x, rfl⟩ := ha; obtain ⟨y, rfl⟩ := hb
  exact ⟨x + y, (EReal.coe_add x y).symm⟩
theorem IsR.mul {a b : EReal} (ha : IsR a) (hb : IsR b) : IsR (a * b) := by
  obtain ⟨x, rfl⟩ := ha; obtain ⟨y, rfl⟩ := hb
  exact ⟨x * y, (EReal.coe_mul x y).symm⟩
theorem IsR.sum {ι : Type*} (s : Finset ι) (f : ι → EReal) (h : ∀ i, IsR (f i)) : IsR (∑ i ∈ s, f i) := by
  classical
  induction s using Finset.induction_on with
  | empty => exact IsR.zero
  | insert a s ha ih => rw [Finset.sum_insert ha]; exact (h a).add ih
theorem IsR.ne {e : EReal} (h1 : e ≠ ⊤) (h2 : e ≠ ⊥) : IsR e := ⟨e.toReal, (EReal.coe_toReal h1 h2).symm⟩

/-- A sum times a real number that is not negative, whatever the terms are. -/
theorem sum_mul_coe {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The largest of finitely many real numbers, one at least, is real. -/
theorem max_real {n : ℕ} (s : Fin (n + 1) → ℝ) :
    IsR (Finset.univ.fold max ⊥ fun j => (s j : EReal)) := by
  have h : ∀ t : Finset (Fin (n + 1)), (t.fold max ⊥ fun j => (s j : EReal)) = ⊥ ∧ t = ∅ ∨
      IsR (t.fold max ⊥ fun j => (s j : EReal)) := by
    classical
    intro t
    induction t using Finset.induction_on with
    | empty => left; simp
    | insert a t ha ih =>
      right
      rw [Finset.fold_insert ha]
      rcases ih with ⟨h, -⟩ | ⟨r, h⟩
      · rw [h, max_eq_left bot_le]; exact ⟨_, rfl⟩
      · rw [h]; exact ⟨max (s a) r, (EReal.coe_strictMono.monotone.map_max).symm⟩
  rcases h Finset.univ with ⟨-, h⟩ | h
  · exact absurd h (Finset.univ_nonempty).ne_empty
  · exact h

theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The weighted average of the values, unshifted and divided last, is the shifted one divided first. -/
theorem soft {n : ℕ} (s v : Fin (n + 1) → EReal) (hs : ∀ j, IsR (s j)) :
    Ideal.div (∑ j, Ideal.exp (s j) * v j) (∑ j, Ideal.exp (s j)) =
      ∑ j, v j * Ideal.div (Ideal.exp (s j - Finset.univ.fold max ⊥ s)) (∑ l, Ideal.exp (s l - Finset.univ.fold max ⊥ s)) := by
  choose a ha using hs
  obtain rfl : s = fun j => (a j : EReal) := funext ha
  obtain ⟨M, hM⟩ := max_real a
  rw [hM]
  have hZ : 0 < ∑ j, Real.exp (a j) := Finset.sum_pos (fun j _ => Real.exp_pos _) Finset.univ_nonempty
  have e1 : (∑ j, Ideal.exp (a j : EReal)) = ((∑ j, Real.exp (a j) : ℝ) : EReal) := by rw [← sum_coe]; rfl
  have e2 : ∀ l, Ideal.exp ((a l : EReal) - (M : EReal)) = ((Real.exp (a l) * Real.exp (-M) : ℝ) : EReal) := fun l => by
    rw [← EReal.coe_sub, ← Real.exp_add, ← sub_eq_add_neg]; rfl
  have e3 : (∑ l, Ideal.exp ((a l : EReal) - (M : EReal))) = (((∑ j, Real.exp (a j)) * Real.exp (-M) : ℝ) : EReal) := by
    rw [Finset.sum_mul, ← sum_coe]; exact Finset.sum_congr rfl fun l _ => e2 l
  have d : ∀ (x : EReal) (r : ℝ), 0 < r → Ideal.div x (r : EReal) = x * ((r⁻¹ : ℝ) : EReal) := fun x r hr => by
    unfold Ideal.div
    rw [if_neg (by exact_mod_cast hr.ne'), ← EReal.coe_inv]
  rw [e1, e3, d _ _ hZ, sum_mul_coe _ _ (inv_nonneg.mpr hZ.le)]
  refine Finset.sum_congr rfl fun j _ => ?_
  rw [e2 j, d _ _ (mul_pos hZ (Real.exp_pos _)), ← EReal.coe_mul]
  have : Real.exp (a j) * Real.exp (-M) * ((∑ j, Real.exp (a j)) * Real.exp (-M))⁻¹ = Real.exp (a j) * (∑ j, Real.exp (a j))⁻¹ := by
    have := (Real.exp_pos (-M)).ne'
    field_simp
  rw [this, EReal.coe_mul, mul_comm (v j), mul_right_comm]
  rfl

end Cert.Value

end
-- ==== Proof.Value.Kern.lean ====
/-
# The kernel's arrays at an index

What `Vals.lean` names, read at an index over the extended reals: a device's queries, the masked scores of one
head, its average of the values and its contribution to the output, and the rows that one device sends
another.
-/
module

public import proofs.«01_k».proof.Proof.KernelIdeal.Sched
public import proofs.«01_k».proof.Proof.Value.Soft
public import Idealize.ShloMosaic.Lib.Pointwise

@[expose] public section

set_option maxRecDepth 16384

noncomputable section

namespace Cert.Value

open Idealize.ShloMosaic

/-- The mask's bit: near the diagonal, or one of the first 32 columns, or one of the first 32 rows. -/
def mbit (i j : Fin 512) : BitVec 1 :=
  IntOp.ori
    (IntOp.ori
      (IntOp.cmpi CmpIPredicate.sle (IntOp.absi (IntOp.subi (BitVec.ofNat 32 i.val) (BitVec.ofNat 32 j.val))) 128#32)
      (IntOp.cmpi CmpIPredicate.slt (BitVec.ofNat 32 j.val) 32#32))
    (IntOp.cmpi CmpIPredicate.slt (BitVec.ofNat 32 i.val) 32#32)

/-- One head's score of a query and a key. -/
def score (q k : Fin 512 → Fin 64 → EReal) (i j : Fin 512) : EReal :=
  Scalar.select (mbit i j) ((∑ d : Fin 64, q i d * k j d) * Ideal.ofBits FTy.f32 0x3E000000#32)
    (Ideal.ofBits FTy.f32 0xCE6E6B28#32)

/-- One head's average of the values, as the kernel takes it. -/
def avg (q k v : Fin 512 → Fin 64 → EReal) (i : Fin 512) (d : Fin 64) : EReal :=
  Ideal.div (∑ j : Fin 512, Ideal.exp (score q k i j) * v j d) (∑ j : Fin 512, Ideal.exp (score q k i j))

end Cert.Value

namespace Cert.Value

open Cert.KernelIdeal Cert.KernelIdeal.Gen Cert.KernelIdeal.Attn
open Idealize.ShloMosaic Idealize.ShloMosaic.TcCoe

/-- A device's queries, at a row and one of its columns. -/
theorem query_at (B : Blocks Ideal) (r : Fin 1024) (e : Fin 512) :
    query B (ix2 r e) = ∑ t : Fin 768, (show EReal from B.x (ix2 r t)) * (show EReal from B.wq (ix2 t e)) := by
  unfold query
  pointwise [k0_pay1, k0_pay2]

/-- A head's weights are the exponentials of its scores. -/
theorem weights_at (q : FVec Ideal S512x64 .bf16) (k : Vec Ideal S1x512x1x64 .bf16) (i j : Fin 512) :
    weights k0_pay3 q k (ix2 i j) = Ideal.exp (score (fun i d => q (ix2 i d)) (fun j d => k (ix4 0 j 0 d)) i j) := by
  pointwise [weights, k0_pay3]
  rfl

/-- A head's contribution, from its weights. -/
theorem headOut_at (p : FVec Ideal S512x512 .bf16) (v : Vec Ideal S1x512x1x64 .bf16) (w : Vec Ideal S64x768 .bf16)
    (i : Fin 512) (n : Fin 768) : headOut p v w (ix2 i n) =
      ∑ d : Fin 64, Ideal.div (∑ j : Fin 512, p (ix2 i j) * (show EReal from v (ix4 0 j 0 d))) (∑ j : Fin 512, p (ix2 i j)) *
        (show EReal from w (ix2 d n)) := by
  pointwise [headOut, rowSum]

/-- A head's queries are its columns, at its batch's rows. -/
theorem qAt_at (q : FVec Ideal S1024x512 .bf16) (b : Fin 2) (h : Fin 8) (i : Fin 512) (d : Fin 64) :
    qAt q b h (ix2 i d) = q (ix2 ⟨512 * b.val + i.val, by omega⟩ ⟨64 * h.val + d.val, by omega⟩) := by
  pointwise [qAt]

theorem kvAt_at (k : Vec Ideal S2x512x8x64 .bf16) (b : Fin 2) (h : Fin 8) (j : Fin 512) (d : Fin 64) :
    kvAt k b h (ix4 0 j 0 d) = k (ix4 b j h d) := by
  unfold kvAt
  congr 1
  funext a
  apply Fin.ext
  fin_cases a
  · show b.val + 1 * 0 = b.val; omega
  · show 0 + 1 * j.val = j.val; omega
  · show h.val + 1 * 0 = h.val; omega
  · show 0 + 1 * d.val = d.val; omega

theorem woAt_at (w : Vec Ideal S512x768 .bf16) (h : Fin 8) (d : Fin 64) (n : Fin 768) :
    woAt w h (ix2 d n) = w (ix2 ⟨64 * h.val + d.val, by omega⟩ n) := by
  unfold woAt
  congr 1
  funext a
  apply Fin.ext
  fin_cases a
  · show 64 * h.val + 1 * d.val = 64 * h.val + d.val; omega
  · show 0 + 1 * n.val = n.val; omega

/-- One head of one batch, from the device's blocks. -/
theorem head_at (B : Blocks Ideal) (b : Fin 2) (h : Fin 8) (i : Fin 512) (n : Fin 768) :
    head B b h (ix2 i n) = ∑ d : Fin 64,
      avg (fun i d => query B (ix2 ⟨512 * b.val + i.val, by omega⟩ ⟨64 * h.val + d.val, by omega⟩))
        (fun j d => B.k (ix4 b j h d)) (fun j d => B.v (ix4 b j h d)) i d *
        (show EReal from B.wo (ix2 ⟨64 * h.val + d.val, by omega⟩ n)) := by
  unfold head
  rw [headOut_at]
  simp only [weights_at, qAt_at, kvAt_at, woAt_at]
  rfl

/-- A batch's sum is over the device's eight heads. -/
theorem batch_at (B : Blocks Ideal) (b : Fin 2) (i : Fin 512) (n : Fin 768) :
    batch B b (ix2 i n) = ∑ h : Fin 8, head B b h (ix2 i n) := by
  rw [Fin.sum_univ_eight]
  pointwise [batch]

end Cert.Value

end
-- ==== Proof.Value.Full.lean ====
/-
# The kernel's result at an index

The rows that a device computes for another, the sum of what it receives, and the whole result: at every index
the sum over the 32 devices and their eight heads of one head's contribution.
-/
module

public import proofs.«01_k».proof.Proof.Value.Kern

@[expose] public section

set_option maxRecDepth 16384

noncomputable section

namespace Cert.Value

open Cert.KernelIdeal Cert.KernelIdeal.Gen Cert.KernelIdeal.Attn
open Idealize.ShloMosaic Idealize.ShloMosaic.TcCoe

/-- A row of the partial output, by its batch. -/
theorem part_at (B : Blocks Ideal) (b : Fin 2) (i : Fin 512) (n : Fin 768) :
    part B (ix2 ⟨512 * b.val + i.val, by omega⟩ n) = batch B b (ix2 i n) := by
  have hi := i.isLt
  fin_cases b
  · refine (dif_pos (show 512 * 0 + i.val < 512 by omega)).trans ?_
    exact congrArg (fun r => batch B 0 (ix2 r n)) (Fin.ext (show 512 * 0 + i.val = i.val by omega))
  · refine (dif_neg (show ¬ 512 * 1 + i.val < 512 by omega)).trans ?_
    exact congrArg (fun r => batch B 1 (ix2 r n)) (Fin.ext (show 512 * 1 + i.val - 512 = i.val by omega))

/-- The rows that belong to a device. -/
theorem chunk_at (B : Blocks Ideal) (d : Dev nD) (r : Fin 32) (n : Fin 768) :
    chunk B d (ix2 r n) = part B (ix2 ⟨32 * d.val + r.val, by have : d.val < 32 := d.isLt; omega⟩ n) := by
  unfold chunk
  congr 1
  funext a
  apply Fin.ext
  fin_cases a
  · show 32 * d.val + 1 * r.val = 32 * d.val + r.val; omega
  · show 0 + 1 * n.val = n.val; omega

/-- Received rows, without their leading axis, are the rows that were sent. -/
theorem lift_at (X : Vec Ideal S32x768 .bf16) :
    shapeCast S32x768 (lift X) shapeCasts_S1x32x768_S32x768 = X := by
  funext j
  show X ((Shape.reshapeEquiv _).symm ((Shape.reshapeEquiv _) j)) = X j
  rw [Equiv.symm_apply_apply]

/-- The running sum, at an index. -/
theorem redAcc_at (own : Vec Ideal S32x768 .bf16) (Y : ℕ → Vec Ideal S32x768 .bf16) (N : ℕ) (j : S32x768.Idx) :
    redAcc own (fun n => lift (Y n)) N j = (show EReal from own j) + ∑ n : Fin N, (show EReal from Y n.val j) := by
  induction N with
  | zero => exact (add_zero (show EReal from own j)).symm
  | succ N ih =>
    rw [Fin.sum_univ_castSucc, ← add_assoc]
    refine Eq.trans (b := redAcc own (fun n => lift (Y n)) N j + (show EReal from shapeCast S32x768 (lift (Y N)) shapeCasts_S1x32x768_S32x768 j)) rfl ?_
    rw [ih, lift_at]
    rfl

/-- The devices, counted back from one of them. -/
theorem sum_back (c : Fin 32) (f : Fin 32 → EReal) :
    f c + ∑ n : Fin 31, f ⟨(c.val + 31 - n.val) % 32, Nat.mod_lt _ (by decide)⟩ = ∑ D : Fin 32, f D := by
  have inv : Function.Involutive fun k : Fin 32 => (⟨(c.val + 32 - k.val) % 32, Nat.mod_lt _ (by decide)⟩ : Fin 32) := fun k => by
    have := c.isLt; have := k.isLt
    apply Fin.ext
    show (c.val + 32 - (c.val + 32 - k.val) % 32) % 32 = k.val
    omega
  have hc := c.isLt
  refine Eq.trans ?_ (Equiv.sum_comp inv.toPerm f)
  refine Eq.trans ?_ (Fin.sum_univ_succ (n := 31) fun k => f (inv.toPerm _ k)).symm
  refine congrArg₂ (fun a b : EReal => a + b) (congrArg f (Fin.ext ?_)) (Finset.sum_congr rfl fun n _ => congrArg f (Fin.ext ?_))
  · show c.val = (c.val + 32 - 0) % 32
    omega
  · show (c.val + 31 - n.val) % 32 = (c.val + 32 - (n.val + 1)) % 32
    congr 1; omega

variable (m : (ℓ : Loc nD τ sig) → Buf (Elt Ideal) ℓ)

/-- A device's reduced rows: the sum of what all devices computed for it. -/
theorem red_at (c : Fin 32) (j : S32x768.Idx) :
    red m c j = ∑ D : Fin 32, (show EReal from ch m D c j) := by
  rw [← sum_back c (fun D => (show EReal from ch m D c j))]
  refine (redAcc_at (ch m c c) (fun n => ch m (prv c ⟨n % 31, Nat.mod_lt _ (by decide)⟩) c) 31 j).trans ?_
  refine congrArg _ (Finset.sum_congr rfl fun n _ => ?_)
  have h : (⟨n.val % 31, Nat.mod_lt _ (by decide)⟩ : J) = n := Fin.ext (Nat.mod_eq_of_lt n.isLt)
  show (show EReal from ch m (prv c ⟨n.val % 31, _⟩) c j) = _
  rw [h]
  rfl

/-- The whole result, at a batch's row. -/
theorem full_at (b : Fin 2) (i : Fin 512) (n : Fin 768) :
    full m (ix2 ⟨512 * b.val + i.val, by omega⟩ n) =
      ∑ D : Fin 32, ∑ h : Fin 8, (show EReal from head (blks m D) b h (ix2 i n)) := by
  have hi := i.isLt; have hb := b.isLt
  refine (red_at m ⟨(512 * b.val + i.val) / 32, by omega⟩ (ix2 ⟨(512 * b.val + i.val) % 32, Nat.mod_lt _ (by decide)⟩ n)).trans ?_
  refine Finset.sum_congr rfl fun D _ => ?_
  refine Eq.trans (chunk_at (blks m D) _ _ n) ?_
  refine Eq.trans (congrArg (fun r => part (blks m D) (ix2 r n)) (Fin.ext ?_)) ((part_at (blks m D) b i n).trans (batch_at (blks m D) b i n))
  show 32 * ((512 * b.val + i.val) / 32) + (512 * b.val + i.val) % 32 = 512 * b.val + i.val
  omega

end Cert.Value

end
-- ==== Proof.Value.Ref.lean ====
/-
# The reference's arrays at an index

The reference's composed term, named stage by stage (queries, mask, scores, exponentials, weights, context) and
read at an index over the extended reals.
-/
module

public import proofs.«01_k».proof.Proof.Gen.ReferenceIdeal.Run
public import proofs.«01_k».proof.Proof.Value.Kern
public import Idealize.ShloMosaic.Lib.Pointwise

@[expose] public section

set_option maxRecDepth 16384

noncomputable section

namespace Cert.Value

open Cert.ReferenceIdeal Cert.ReferenceIdeal.Gen
open Idealize.ShloMosaic Idealize.ShloMosaic.TcCoe

/-- The queries, by batch, row, head and lane. -/
def rQ (X : FVec Ideal S1024x768 .bf16) (Wq : FVec Ideal S768x16384 .bf16) : FVec Ideal S2x512x256x64 .f32 :=
  (shapeCast S2x512x256x64 (extf .f32 (truncf .bf16 (Host.dotGeneral dot_S2x512x768_S768x16384_S2x512x16384_2_0_01_1_n_n none (shapeCast S2x512x768 (extf .f32 X bitsLt_bf16_f32) shapeCasts_S1024x768_S2x512x768) (extf .f32 Wq bitsLt_bf16_f32)) bitsLt_bf16_f32) bitsLt_bf16_f32) shapeCasts_S2x512x16384_S2x512x256x64)

/-- The mask. -/
def rMask : IVec S512x512 1 :=
  (ori (cmpi .sle (absi (subi (broadcastInDim S512x512 ![0, 1] bcast_S512x1_S512x512_0_1 (broadcastInDim S512x1 ![0] bcast_S512_S512x1_0 (iotaInDim S512 32 0))) (broadcastInDim S512x512 ![0, 1] bcast_S1x512_S512x512_0_1 (broadcastInDim S1x512 ![1] bcast_S512_S1x512_1 (iotaInDim S512 32 0))))) (broadcastInDim S512x512 ![] bcast_S_S512x512 (constantI S_ 32 128#32))) (ori (broadcastInDim S512x512 ![0, 1] bcast_S1x512_S512x512_0_1 (cmpi .slt (broadcastInDim S1x512 ![1] bcast_S512_S1x512_1 (iotaInDim S512 32 0)) (broadcastInDim S1x512 ![] bcast_S_S1x512 (constantI S_ 32 32#32)))) (broadcastInDim S512x512 ![0, 1] bcast_S512x1_S512x512_0_1 (cmpi .slt (broadcastInDim S512x1 ![0] bcast_S512_S512x1_0 (iotaInDim S512 32 0)) (broadcastInDim S512x1 ![] bcast_S_S512x1 (constantI S_ 32 32#32))))))

/-- The masked scores of given queries. -/
def rS (Q : FVec Ideal S2x512x256x64 .f32) (K : FVec Ideal S2x512x256x64 .bf16) : FVec Ideal S2x256x512x512 .f32 :=
  (select (broadcastInDim S2x256x512x512 ![0, 1, 2, 3] bcast_S1x1x512x512_S2x256x512x512_0_1_2_3 (broadcastInDim S1x1x512x512 ![2, 3] bcast_S512x512_S1x1x512x512_2_3 rMask)) (mulf (extf .f32 (truncf .bf16 (Host.dotGeneral dot_S2x512x256x64_S2x512x256x64_S2x256x512x512_3_3_1_1_02_02 none Q (extf .f32 K bitsLt_bf16_f32)) bitsLt_bf16_f32) bitsLt_bf16_f32) (broadcastInDim S2x256x512x512 ![] bcast_S_S2x256x512x512 (constant S_ .f32 0x3E000000#32))) (broadcastInDim S2x256x512x512 ![] bcast_S_S2x256x512x512 (id (constant S_ .f32 0xCE6E6B28#32))))

/-- Whether a row of the mask has a set bit. -/
def rAny : IVec S512 1 := (Host.reduce IntOp.ori rMask (constantI S_ 1 0#1) reducesTo_S512x512_S512_d1 h_S_)

/-- The exponentials of scores, less their row's largest. -/
def rE (s : FVec Ideal S2x256x512x512 .f32) : FVec Ideal S2x256x512x512 .f32 :=
  (Host.exp (subf s (broadcastInDim S2x256x512x512 ![0, 1, 2, 3] bcast_S2x256x512x1_S2x256x512x512_0_1_2_3 (broadcastInDim S2x256x512x1 ![0, 1, 2] bcast_S2x256x512_S2x256x512x1_0_1_2 (Host.reduce FloatOps.maximumf s (constant S_ .f32 0xFF800000#32) reducesTo_S2x256x512x512_S2x256x512_d3 h_S_)))))

/-- The weights of given exponentials. -/
def rW (e : FVec Ideal S2x256x512x512 .f32) : FVec Ideal S2x256x512x512 .f32 :=
  (select (broadcastInDim S2x256x512x512 ![0, 1, 2, 3] bcast_S1x1x512x1_S2x256x512x512_0_1_2_3 (broadcastInDim S1x1x512x1 ![2] bcast_S512_S1x1x512x1_2 rAny)) (Host.divf e (broadcastInDim S2x256x512x512 ![0, 1, 2, 3] bcast_S2x256x512x1_S2x256x512x512_0_1_2_3 (select (broadcastInDim S2x256x512x1 ![0, 1, 2, 3] bcast_S1x1x512x1_S2x256x512x1_0_1_2_3 (broadcastInDim S1x1x512x1 ![2] bcast_S512_S1x1x512x1_2 rAny)) (broadcastInDim S2x256x512x1 ![0, 1, 2] bcast_S2x256x512_S2x256x512x1_0_1_2 (Host.reduceAdd e (constant S_ .f32 0x00000000#32) reducesTo_S2x256x512x512_S2x256x512_d3 h_S_)) (broadcastInDim S2x256x512x1 ![] bcast_S_S2x256x512x1 (id (constant S_ .f32 0x3F800000#32)))))) (broadcastInDim S2x256x512x512 ![] bcast_S_S2x256x512x512 (id (constant S_ .f32 0x00000000#32))))

/-- The context of given weights, a row's heads and lanes side by side. -/
def rC (V : FVec Ideal S2x512x256x64 .bf16) (w : FVec Ideal S2x256x512x512 .f32) : FVec Ideal S2x512x16384 .f32 :=
  (shapeCast S2x512x16384 (transpose S2x512x256x64 [0, 3, 1, 2] (Host.dotGeneral dot_S2x512x256x64_S2x256x512x512_S2x256x64x512_1_3_3_2_02_01 none (extf .f32 V bitsLt_bf16_f32) w) transposes_S2x256x64x512_S2x512x256x64_0_3_1_2) shapeCasts_S2x512x256x64_S2x512x16384)

/-- The output of a given context. -/
def rO (C : FVec Ideal S2x512x16384 .f32) (Wo : FVec Ideal S16384x768 .bf16) : FVec Ideal S1024x768 .bf16 :=
  shapeCast S1024x768 (truncf .bf16 (Host.dotGeneral dot_S2x512x16384_S16384x768_S2x512x768_2_0_01_1_n_n none C (extf .f32 Wo bitsLt_bf16_f32)) bitsLt_bf16_f32) shapeCasts_S2x512x768_S1024x768

/-- The reference's result is its stages in turn. -/
theorem ref_stages (m : (ℓ : Loc nD τ sig) → Buf (Elt Ideal) ℓ) (c : Dev nD) :
    Cert.ReferenceIdeal.Value.res_out0 m c =
      rO (rC (m ((c.tc : Thread nD τ).loc main_arg3)) (rW (rE (rS (rQ (m ((c.tc : Thread nD τ).loc main_arg0))
        (m ((c.tc : Thread nD τ).loc main_arg1))) (m ((c.tc : Thread nD τ).loc main_arg2))))))
        (m ((c.tc : Thread nD τ).loc main_arg4)) := rfl

/-! ## At an index -/

/-- A query is a row of x times a column of Wq. -/
theorem rQ_at (X : FVec Ideal S1024x768 .bf16) (Wq : FVec Ideal S768x16384 .bf16) (b : Fin 2) (i : Fin 512) (h : Fin 256) (d : Fin 64) :
    rQ X Wq (ix4 b i h d) = ∑ t : Fin 768, X (ix2 ⟨b.val * 512 + i.val, by omega⟩ t) * Wq (ix2 t ⟨h.val * 64 + d.val, by omega⟩) := by
  pointwise [rQ]

/-- The mask is the kernel's, its three parts grouped the other way. -/
theorem rMask_at (i j : Fin 512) : rMask (ix2 i j) = mbit i j := by
  pointwise [rMask]
  exact (BitVec.or_assoc _ _ _).symm

/-- The scores, by head. -/
theorem rS_at (Q : FVec Ideal S2x512x256x64 .f32) (K : FVec Ideal S2x512x256x64 .bf16) (b : Fin 2) (h : Fin 256) (i j : Fin 512) :
    rS Q K (ix4 b h i j) = score (fun i d => Q (ix4 b i h d)) (fun j d => K (ix4 b j h d)) i j := by
  pointwise [rS]
  rw [rMask_at]
  rfl

/-- A fold by disjunction that meets a set bit is set. -/
theorem fold_ori {ι : Type*} (s : Finset ι) (f : ι → BitVec 1) (i : ι) (hi : i ∈ s) (h : f i = 1#1) :
    s.fold IntOp.ori 0#1 f = 1#1 := by
  classical
  rw [← Finset.insert_erase hi, Finset.fold_insert (Finset.notMem_erase i s), h]
  generalize (s.erase i).fold IntOp.ori 0#1 f = x
  revert x; decide

/-- The mask's diagonal is set. -/
theorem mbit_self (i : Fin 512) : mbit i i = 1#1 := by
  unfold mbit
  have h : IntOp.subi (BitVec.ofNat 32 i.val) (BitVec.ofNat 32 i.val) = 0#32 := BitVec.sub_self _
  have h' : IntOp.cmpi CmpIPredicate.sle (IntOp.absi (0#32)) 128#32 = 1#1 := by decide
  rw [h, h']
  generalize IntOp.cmpi CmpIPredicate.slt (BitVec.ofNat 32 i.val) 32#32 = x
  revert x; decide

/-- So every row of the mask has a set bit. -/
theorem rAny_at (i : Fin 512) : rAny (ix1 i) = 1#1 := by
  pointwise [rAny]
  exact fold_ori _ _ i (Finset.mem_univ i) ((rMask_at i i).trans (mbit_self i))

/-- The word of minus infinity. -/
theorem ninf : Ideal.ofBits FTy.f32 0xFF800000#32 = ⊥ := by
  simp [Ideal.ofBits, Ideal.ieee]

/-- An exponential, less the row's largest score. -/
theorem rE_at (s : FVec Ideal S2x256x512x512 .f32) (b : Fin 2) (h : Fin 256) (i j : Fin 512) :
    rE s (ix4 b h i j) = Ideal.exp (s (ix4 b h i j) - Finset.univ.fold max ⊥ fun l : Fin 512 => s (ix4 b h i l)) := by
  pointwise [rE]
  rw [ninf]

/-- A weight is the exponential over the row's sum. -/
theorem rW_at (e : FVec Ideal S2x256x512x512 .f32) (b : Fin 2) (h : Fin 256) (i j : Fin 512) :
    rW e (ix4 b h i j) = Ideal.div (e (ix4 b h i j)) (∑ l : Fin 512, e (ix4 b h i l)) := by
  pointwise [rW]
  rw [rAny_at]
  rfl

/-- The context, by head and lane. -/
theorem rC_at (V : FVec Ideal S2x512x256x64 .bf16) (w : FVec Ideal S2x256x512x512 .f32) (b : Fin 2) (i : Fin 512) (h : Fin 256) (d : Fin 64) :
    rC V w (ix3 b i ⟨h.val * 64 + d.val, by omega⟩) = ∑ j : Fin 512, V (ix4 b j h d) * w (ix4 b h i j) := by
  have h1 : (⟨(h.val * 64 + d.val) / 64, by omega⟩ : Fin 256) = h := Fin.ext (show (h.val * 64 + d.val) / 64 = h.val by omega)
  have h2 : (⟨(h.val * 64 + d.val) % 64, by omega⟩ : Fin 64) = d := Fin.ext (show (h.val * 64 + d.val) % 64 = d.val by omega)
  pointwise [rC]

/-- The output at a batch's row, head by head. -/
theorem rO_at (C : FVec Ideal S2x512x16384 .f32) (Wo : FVec Ideal S16384x768 .bf16) (b : Fin 2) (i : Fin 512) (n : Fin 768) :
    rO C Wo (ix2 ⟨512 * b.val + i.val, by omega⟩ n) = ∑ h : Fin 256, ∑ d : Fin 64,
      C (ix3 b i ⟨h.val * 64 + d.val, by omega⟩) * Wo (ix2 ⟨h.val * 64 + d.val, by omega⟩ n) := by
  refine Eq.trans (b := ∑ e : Fin 16384, C (ix3 b i e) * Wo (ix2 e n)) ?_ (Fin.sum_univ_tiles 256 64 rfl _)
  pointwise [rO]

/-- One head's average of the values, as the reference takes it. -/
def avgR (q k v : Fin 512 → Fin 64 → EReal) (i : Fin 512) (d : Fin 64) : EReal :=
  ∑ j : Fin 512, v j d * Ideal.div (Ideal.exp (score q k i j - Finset.univ.fold max ⊥ (score q k i)))
    (∑ l : Fin 512, Ideal.exp (score q k i l - Finset.univ.fold max ⊥ (score q k i)))

/-- The reference's result at a batch's row: over all heads and lanes, the average times the output projection. -/
theorem ref_at (X : FVec Ideal S1024x768 .bf16) (Wq : FVec Ideal S768x16384 .bf16) (K V : FVec Ideal S2x512x256x64 .bf16)
    (Wo : FVec Ideal S16384x768 .bf16) (b : Fin 2) (i : Fin 512) (n : Fin 768) :
    rO (rC V (rW (rE (rS (rQ X Wq) K)))) Wo (ix2 ⟨512 * b.val + i.val, by omega⟩ n) = ∑ h : Fin 256, ∑ d : Fin 64,
      avgR (fun i d => ∑ t : Fin 768, X (ix2 ⟨b.val * 512 + i.val, by omega⟩ t) * Wq (ix2 t ⟨h.val * 64 + d.val, by omega⟩))
        (fun j d => K (ix4 b j h d)) (fun j d => V (ix4 b j h d)) i d * Wo (ix2 ⟨h.val * 64 + d.val, by omega⟩ n) := by
  refine (rO_at _ _ b i n).trans (Finset.sum_congr rfl fun h _ => Finset.sum_congr rfl fun d _ => ?_)
  refine congrArg (· * Wo (ix2 ⟨h.val * 64 + d.val, _⟩ n)) ?_
  refine (rC_at _ _ b i h d).trans (Finset.sum_congr rfl fun j _ => ?_)
  refine congrArg (V (ix4 b j h d) * ·) ?_
  refine (rW_at _ b h i j).trans ?_
  simp only [rE_at, rS_at, rQ_at]

end Cert.Value

end
-- ==== Proof.Value.Pre.lean ====
/-
# What the precondition gives

The precondition of a device's blocks says, element by element, that x, the query columns and the keys are real
numbers. The two float literals of the scores are real too.
-/
module

public import proofs.«01_k».proof.Proof.Gen.Pre_real_scores_KernelIdeal
public import proofs.«01_k».proof.Proof.Value.Soft
public import Idealize.ShloMosaic.Lib.Pointwise
public import Idealize.ShloMosaic.Lib.ReduceAll

@[expose] public section

set_option maxRecDepth 16384

noncomputable section

namespace Cert.Value

open Cert.Pre_real_scores_KernelIdeal Cert.Pre_real_scores_KernelIdeal.Gen
open Idealize.ShloMosaic Idealize.ShloMosaic.TcCoe

/-- The word of infinity. -/
theorem inf16 : Ideal.ofBits FTy.bf16 0x7F80#16 = ⊤ := by
  simp [Ideal.ofBits, Ideal.ieee]

/-- The scale of the scores is real, -/
theorem scale_real : IsR (Ideal.ofBits FTy.f32 0x3E000000#32) := by
  simp [Ideal.ofBits, Ideal.ieee]
  exact ⟨_, rfl⟩

/-- and so is the score of what is masked. -/
theorem low_real : IsR (Ideal.ofBits FTy.f32 0xCE6E6B28#32) := by
  simp [Ideal.ofBits, Ideal.ieee]
  exact ⟨_, rfl⟩

/-- A number whose absolute value is below infinity is real. -/
theorem real_of_abs (x : EReal) (h : FloatOps.cmpf (F := Ideal) (φ := .bf16) CmpFPredicate.olt (FloatOps.absf (F := Ideal) (φ := .bf16) x) (Ideal.ofBits FTy.bf16 0x7F80#16) = 1#1) : IsR x := by
  rw [inf16] at h
  induction x with
  | bot => exact absurd h (by simp [Ideal.cmpf_def, Ideal.absf_def, Ideal.cmp])
  | coe r => exact ⟨r, rfl⟩
  | top => exact absurd h (by simp [Ideal.cmpf_def, Ideal.absf_def, Ideal.cmp])

/-- An array all of whose absolute values are below infinity holds real numbers. -/
theorem real_of_all {S : Shape} {axes : List (Fin S.rank)} (x : FVec Ideal S .bf16) (hb : S_.BroadcastsInDim S (![] : Fin 0 → Fin S.rank))
    (hr : S.ReducesTo axes S_) (hu : 0 < S_.numel)
    (h : Host.reduce IntOp.andi (cmpf .olt (Host.absf x) (broadcastInDim S ![] hb (constant S_ .bf16 0x7F80#16))) (constantI S_ 1 1#1) hr hu ix0 = 1#1)
    (i : S.Idx) : IsR (x i) := by
  haveI : Subsingleton S_.Idx := ⟨fun a b => funext fun k => k.elim0⟩
  exact real_of_abs (x i) (Host.reduce_andi_all _ _ hr hu ix0 h i)

theorem andi_both (a b : BitVec 1) (h : IntOp.andi a b = 1#1) : a = 1#1 ∧ b = 1#1 := by
  revert a b; decide

/-- x, the query columns and the keys of a device that meets the precondition are real. -/
theorem real_of_pre (x : FVec Ideal S1024x768 .bf16) (wq : FVec Ideal S768x512 .bf16) (k v : FVec Ideal S2x512x8x64 .bf16)
    (wo : FVec Ideal S512x768 .bf16) (h : ∀ j, fn (F := Ideal) x wq k v wo j = 1#1) :
    (∀ i, IsR (x i)) ∧ (∀ i, IsR (wq i)) ∧ ∀ i, IsR (k i) := by
  obtain ⟨h12, h3⟩ := andi_both _ _ (h ix0)
  obtain ⟨h1, h2⟩ := andi_both _ _ h12
  exact ⟨real_of_all x _ _ _ h1, real_of_all wq _ _ _ h2, real_of_all k _ _ _ h3⟩

end Cert.Value

end
-- ==== Proof.Value.Bridge.lean ====
/-
# The kernel's result is the reference's

Device `c`'s blocks are cut out of the whole arrays: head `h` of device `c` is head `8 c + h`, its query columns,
keys, values and rows of the output projection are that head's. So the sum over the devices and their heads
is the sum over all heads, and each head's average of the values is the reference's.
-/
module

public import proofs.«01_k».proof.Proof.Value.Full
public import proofs.«01_k».proof.Proof.Value.Ref
public import proofs.«01_k».proof.Proof.Value.Pre

@[expose] public section

set_option maxRecDepth 16384

noncomputable section

namespace Cert.Value

open Cert.KernelIdeal Cert.KernelIdeal.Gen Cert.KernelIdeal.Attn
open Idealize.ShloMosaic Idealize.ShloMosaic.TcCoe

/-- A score of real queries and keys is real. -/
theorem score_real (q k : Fin 512 → Fin 64 → EReal) (hq : ∀ i d, IsR (q i d)) (hk : ∀ j d, IsR (k j d)) (i j : Fin 512) :
    IsR (score q k i j) := by
  unfold score Scalar.select
  split
  · exact (IsR.sum _ _ fun d => (hq i d).mul (hk j d)).mul scale_real
  · exact low_real

/-- Of real queries and keys the kernel's average is the reference's. -/
theorem avg_eq (q k v : Fin 512 → Fin 64 → EReal) (hq : ∀ i d, IsR (q i d)) (hk : ∀ j d, IsR (k j d)) (i : Fin 512) (d : Fin 64) :
    avg q k v i d = avgR q k v i d :=
  soft (n := 511) (score q k i) (fun j => v j d) (score_real q k hq hk i)

/-- Device `c`'s block of the query columns, -/
abbrev cols (c : Fin 32) (W : (⟨2, ![768, 16384]⟩ : Shape).Idx → EReal) : (⟨2, ![768, 512]⟩ : Shape).Idx → EReal :=
  Layout.block ⟨2, ![768, 512]⟩ ⟨2, ![768, 16384]⟩ 1 32 c W
/-- of the output projection's rows, -/
abbrev rows (c : Fin 32) (W : (⟨2, ![16384, 768]⟩ : Shape).Idx → EReal) : (⟨2, ![512, 768]⟩ : Shape).Idx → EReal :=
  Layout.block ⟨2, ![512, 768]⟩ ⟨2, ![16384, 768]⟩ 0 32 c W
/-- and of the keys' or the values' heads. -/
abbrev heads (c : Fin 32) (W : (⟨4, ![2, 512, 256, 64]⟩ : Shape).Idx → EReal) : (⟨4, ![2, 512, 8, 64]⟩ : Shape).Idx → EReal :=
  Layout.block ⟨4, ![2, 512, 8, 64]⟩ ⟨4, ![2, 512, 256, 64]⟩ 2 32 c W

/-- A column of a device's block of the query columns. -/
theorem col_block (c : Fin 32) (W : (⟨2, ![768, 16384]⟩ : Shape).Idx → EReal) (t : Fin 768) (h : Fin 8) (d : Fin 64) :
    cols c W (ix2 t ⟨64 * h.val + d.val, by omega⟩) =
      W (ix2 t ⟨(c.val * 8 + h.val) * 64 + d.val, by omega⟩) := by
  refine congrArg W (funext fun a => Fin.ext ?_)
  fin_cases a
  · rfl
  · show c.val * 512 + (64 * h.val + d.val) = (c.val * 8 + h.val) * 64 + d.val
    omega

/-- A row of a device's block of the output projection. -/
theorem row_block (c : Fin 32) (W : (⟨2, ![16384, 768]⟩ : Shape).Idx → EReal) (n : Fin 768) (h : Fin 8) (d : Fin 64) :
    rows c W (ix2 ⟨64 * h.val + d.val, by omega⟩ n) =
      W (ix2 ⟨(c.val * 8 + h.val) * 64 + d.val, by omega⟩ n) := by
  refine congrArg W (funext fun a => Fin.ext ?_)
  fin_cases a
  · show c.val * 512 + (64 * h.val + d.val) = (c.val * 8 + h.val) * 64 + d.val
    omega
  · rfl

/-- A head of a device's block of the keys or the values. -/
theorem head_block (c : Fin 32) (W : (⟨4, ![2, 512, 256, 64]⟩ : Shape).Idx → EReal) (b : Fin 2) (j : Fin 512) (h : Fin 8) (d : Fin 64) :
    heads c W (ix4 b j h d) =
      W (ix4 b j ⟨c.val * 8 + h.val, by omega⟩ d) := by
  refine congrArg W (funext fun a => Fin.ext ?_)
  fin_cases a <;> rfl

/-- The kernel's whole result, of blocks cut out of whole arrays, x and the columns and keys being real, is the
    reference's. -/
theorem full_eq (m : (ℓ : Loc nD τ sig) → Buf (Elt Ideal) ℓ) (X : (⟨2, ![1024, 768]⟩ : Shape).Idx → EReal)
    (Wq : (⟨2, ![768, 16384]⟩ : Shape).Idx → EReal) (K V : (⟨4, ![2, 512, 256, 64]⟩ : Shape).Idx → EReal)
    (Wo : (⟨2, ![16384, 768]⟩ : Shape).Idx → EReal)
    (hB : ∀ c : Fin 32, blks m c = ⟨X, cols c Wq,
      heads c K,
      heads c V,
      rows c Wo⟩)
    (hX : ∀ i, IsR (X i))
    (hW : ∀ (c : Fin 32) i, IsR (cols c Wq i))
    (hK : ∀ (c : Fin 32) i, IsR (heads c K i)) :
    full m = rO (rC V (rW (rE (rS (rQ X Wq) K)))) Wo := by
  funext z
  obtain ⟨b, i, n, rfl⟩ : ∃ (b : Fin 2) (i : Fin 512) (n : Fin 768), z = ix2 ⟨512 * b.val + i.val, by omega⟩ n := by
    have hz : (z 0).val < 1024 := (z 0).isLt
    refine ⟨⟨(z 0).val / 512, by omega⟩, ⟨(z 0).val % 512, Nat.mod_lt _ (by decide)⟩, z 1, ?_⟩
    refine (eq_ix2 z).trans (congrArg (fun r => ix2 r (z 1)) (Fin.ext ?_))
    show (z 0).val = 512 * ((z 0).val / 512) + (z 0).val % 512
    omega
  refine (full_at m b i n).trans (Eq.trans ?_ (ref_at X Wq K V Wo b i n).symm)
  refine Eq.trans ?_ (Fin.sum_univ_tiles 32 8 rfl _).symm
  refine Finset.sum_congr rfl fun c _ => Finset.sum_congr rfl fun h _ => ?_
  refine (head_at (blks m c) b h i n).trans (Finset.sum_congr rfl fun d _ => ?_)
  rw [hB c]
  refine congrArg₂ (fun a b : EReal => a * b) ?_ (row_block c Wo n h d)
  have hq : ∀ (i : Fin 512) (d : Fin 64), query (⟨X, cols c Wq,
      heads c K,
      heads c V,
      rows c Wo⟩ : Blocks Ideal)
        (ix2 ⟨512 * b.val + i.val, by omega⟩ ⟨64 * h.val + d.val, by omega⟩) =
      ∑ t : Fin 768, X (ix2 ⟨b.val * 512 + i.val, by omega⟩ t) * Wq (ix2 t ⟨(c.val * 8 + h.val) * 64 + d.val, by omega⟩) := fun i d => by
    refine (query_at _ _ _).trans (Finset.sum_congr rfl fun t _ => ?_)
    refine congrArg₂ (fun a b : EReal => a * b) (congrArg (fun r => X (ix2 r t)) (Fin.ext ?_)) (col_block c Wq t h d)
    show 512 * b.val + i.val = b.val * 512 + i.val
    omega
  refine (avg_eq _ _ _ (fun i d => ?_) (fun j d => hK c _) i d).trans ?_
  · refine (congrArg IsR (query_at _ _ _)).mpr (IsR.sum _ _ fun t => ?_)
    exact (hX _).mul (hW c _)
  · refine congrFun (congrFun (congr (congrArg₂ avgR ?_ ?_) ?_) i) d
    · funext i d; exact hq i d
    · funext j d; exact head_block c K b j h d
    · funext j d; exact head_block c V b j h d

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_real_scores_KernelIdeal
public import proofs.«01_k».proof.Proof.Gen.Pre_real_scores_ReferenceIdeal
public import proofs.«01_k».proof.Proof.KernelIdeal.Launch
public import proofs.«01_k».proof.Proof.Kernel.Launch
public import proofs.«01_k».proof.Proof.Value.Bridge
public import Idealize.ShloMosaic.Adequacy
public import Idealize.ShloMosaic.Init

@[expose] public section

noncomputable section

namespace Cert.Proof

open Idealize.ShloMosaic Idealize.SL.Sem Cert.Kernel

/-- The kernel as written ends, its arguments unchanged and its semaphores at zero. -/
theorem frame_kernel : Cert.quiescent_Kernel (hKernel := Cert.Kernel.Gen.facts) := fun m ρ _ =>
  (θ_run _ _ _).mono (fun r h => ⟨fun c => (h.1 c).2, h.2⟩) (Cert.Kernel.Attn.run_value (F := Bits) m ρ)

/-- So does its ideal reading, -/
theorem frame_ideal : Cert.quiescent_KernelIdeal (hKernelIdeal := Cert.KernelIdeal.Gen.facts) := fun m ρ _ =>
  (θ_run _ _ _).mono (fun r h => ⟨fun c => (h.1 c).2, h.2⟩) (Cert.KernelIdeal.Attn.run_value (F := Ideal) m ρ)

/-- and the reference, which declares no semaphore. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run (F := Ideal) m ρ)

/-- At exact arithmetic every device ends with the reference's result, its arguments unchanged, whenever the devices'
    arrays are the blocks of the reference's and x, the query columns and the keys are real. -/
theorem value_ideal : Cert.algebraic_KernelIdeal_ReferenceIdeal_pre_real_scores_KernelIdeal
    (hKernelIdeal := Cert.KernelIdeal.Gen.facts) (hReferenceIdeal := Cert.ReferenceIdeal.Gen.facts)
    (hPre_real_scores_KernelIdeal := Cert.Pre_real_scores_KernelIdeal.Gen.facts) := fun m ρ m' ρ' hpre hag => by
  have hr := fun c => Cert.Value.real_of_pre _ _ _ _ _ (fun j => congrFun (hpre c) j)
  have key : Cert.KernelIdeal.Attn.full m = Cert.ReferenceIdeal.Value.res_out0 m' 0 :=
    (Cert.Value.full_eq m _ _ _ _ _
      (fun c => by
        obtain ⟨h0, h1, h2, h3, h4⟩ := hag c
        unfold Cert.KernelIdeal.Attn.blks
        congr 1)
      (fun i => (congrArg Cert.Value.IsR (congrFun (hag 0).1 i)).mp ((hr 0).1 i))
      (fun c i => (congrArg Cert.Value.IsR (congrFun (hag c).2.1 i)).mp ((hr c).2.1 i))
      (fun c i => (congrArg Cert.Value.IsR (congrFun (hag c).2.2.1 i)).mp ((hr c).2.2 i))).trans
      (Cert.Value.ref_stages m' 0).symm
  refine ⟨Cert.ReferenceIdeal.Value.res_out0 m' 0, ?_, ?_⟩
  · exact (θ_run _ _ _).mono (fun r h c => ⟨((h.1 c).1).trans key, (h.1 c).2⟩)
      (Cert.KernelIdeal.Attn.run_value (F := Ideal) m ρ)
  · exact (θ_run _ _ _).mono (fun r h => h 0) (Cert.ReferenceIdeal.Value.run (F := Ideal) m' ρ')

/-- All claims together. -/
theorem claim : Cert.Claim := ⟨Cert.Kernel.Gen.facts, Cert.KernelIdeal.Gen.facts, Cert.ReferenceIdeal.Gen.facts,
  Cert.Pre_real_scores_KernelIdeal.Gen.facts, Cert.Pre_real_scores_ReferenceIdeal.Gen.facts,
  frame_kernel, frame_ideal, fun m ρ _ => frame_ideal m ρ trivial, frame_reference, fun m ρ _ => frame_reference m ρ trivial,
  trivial, value_ideal⟩

end Cert.Proof

end
